-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S160x1x1024 : Shape := ⟨3, ![160, 1, 1024]⟩
abbrev S2x49152x1024 : Shape := ⟨3, ![2, 49152, 1024]⟩
abbrev S2x384x8 : Shape := ⟨3, ![2, 384, 8]⟩
abbrev S160x1024 : Shape := ⟨2, ![160, 1024]⟩
abbrev S160x49152 : Shape := ⟨2, ![160, 49152]⟩
abbrev S160x8 : Shape := ⟨2, ![160, 8]⟩
abbrev S160x384 : Shape := ⟨2, ![160, 384]⟩
abbrev S2x1024x1024 : Shape := ⟨3, ![2, 1024, 1024]⟩
abbrev S2x8x8 : Shape := ⟨3, ![2, 8, 8]⟩
abbrev S160x128 : Shape := ⟨2, ![160, 128]⟩
abbrev S160 : Shape := ⟨1, ![160]⟩
abbrev S160x1 : Shape := ⟨2, ![160, 1]⟩
abbrev S160x256 : Shape := ⟨2, ![160, 256]⟩
abbrev S1x128x128 : Shape := ⟨3, ![1, 128, 128]⟩
abbrev S128x128 : Shape := ⟨2, ![128, 128]⟩
abbrev S1x1x1 : Shape := ⟨3, ![1, 1, 1]⟩
abbrev S256x128 : Shape := ⟨2, ![256, 128]⟩
abbrev S256x1024 : Shape := ⟨2, ![256, 1024]⟩

abbrev nBuf : Space → Nat
  | .hbm => 9
  | .vmem => 11
  | .smem => 2
  | _ => 0

abbrev bufTy : (tb : Table) → Fin (tcTables nBuf tb) → BufTy
  | .hbm, ⟨0, _⟩ => ⟨S160x1x1024, .bf16⟩
  | .hbm, ⟨1, _⟩ => ⟨S2x49152x1024, .fp8e4m3⟩
  | .hbm, ⟨2, _⟩ => ⟨S2x384x8, .f32⟩
  | .hbm, ⟨3, _⟩ => ⟨S160x1024, .bf16⟩
  | .hbm, ⟨4, _⟩ => ⟨S160x49152, .bf16⟩
  | .hbm, ⟨5, _⟩ => ⟨S160x1024, .fp8e4m3⟩
  | .hbm, ⟨6, _⟩ => ⟨S160x8, .f32⟩
  | .hbm, ⟨7, _⟩ => ⟨S160x49152, .fp8e4m3⟩
  | .hbm, ⟨8, _⟩ => ⟨S160x384, .f32⟩
  | .local _ .vmem, ⟨0, _⟩ => ⟨S160x1024, .bf16⟩
  | .local _ .vmem, ⟨1, _⟩ => ⟨S2x1024x1024, .fp8e4m3⟩
  | .local _ .vmem, ⟨2, _⟩ => ⟨S2x1024x1024, .fp8e4m3⟩
  | .local _ .vmem, ⟨3, _⟩ => ⟨S160x1024, .bf16⟩
  | .local _ .vmem, ⟨4, _⟩ => ⟨S160x1024, .bf16⟩
  | .local _ .vmem, ⟨5, _⟩ => ⟨S160x1024, .fp8e4m3⟩
  | .local _ .vmem, ⟨6, _⟩ => ⟨S160x8, .f32⟩
  | .local _ .vmem, ⟨7, _⟩ => ⟨S160x1024, .fp8e4m3⟩
  | .local _ .vmem, ⟨8, _⟩ => ⟨S160x1024, .fp8e4m3⟩
  | .local _ .vmem, ⟨9, _⟩ => ⟨S160x384, .f32⟩
  | .local _ .vmem, ⟨10, _⟩ => ⟨S160x1024, .bf16⟩
  | .local _ .smem, ⟨0, _⟩ => ⟨S2x8x8, .f32⟩
  | .local _ .smem, ⟨1, _⟩ => ⟨S2x8x8, .f32⟩
  | _, _ => ⟨S160x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c8_i32_897 : BitVec 32 := 8#32
  let v1349 : BitVec 32 := Scalar.muli arg0 c8_i32_897
  let c0_i32_899 : BitVec 32 := 0#32
  let v1351 : BitVec 1 := Scalar.cmpi .sgt v1349 c0_i32_899
  let v1352 : BitVec 32 := Scalar.extui v1351
  let c0_i32_900 : BitVec 32 := 0#32
  let v1353 : BitVec 1 := Scalar.cmpi .slt v1349 c0_i32_900
  let v1354 : BitVec 32 := Scalar.extui v1353
  let v1355 : BitVec 32 := Scalar.subi v1352 v1354
  let c128_i32_898 : BitVec 32 := 128#32
  let c0_i32_901 : BitVec 32 := 0#32
  let v1356 : BitVec 1 := Scalar.cmpi .sgt c128_i32_898 c0_i32_901
  let v1357 : BitVec 32 := Scalar.extui v1356
  let c0_i32_902 : BitVec 32 := 0#32
  let v1358 : BitVec 1 := Scalar.cmpi .slt c128_i32_898 c0_i32_902
  let v1359 : BitVec 32 := Scalar.extui v1358
  let v1360 : BitVec 32 := Scalar.subi v1357 v1359
  let v1361 : BitVec 1 := Scalar.cmpi .ne v1355 v1360
  let v1362 : BitVec 32 := Scalar.remsi v1349 c128_i32_898
  let c0_i32_903 : BitVec 32 := 0#32
  let v1363 : BitVec 1 := Scalar.cmpi .ne v1362 c0_i32_903
  let v1364 : BitVec 1 := Scalar.andi v1361 v1363
  let v1350 : BitVec 32 := Scalar.divsi v1349 c128_i32_898
  let c1_i32_904 : BitVec 32 := 1#32
  let v1365 : BitVec 32 := Scalar.subi v1350 c1_i32_904
  let v1366 : BitVec 32 := Scalar.select v1364 v1365 v1350
  let c128_i32_905 : BitVec 32 := 128#32
  let v1367 : BitVec 32 := Scalar.muli v1366 c128_i32_905
  v1367
def k0_off1 (i : grid0.Coords) : Fin 2 → Nat :=
  let c0_907 : Index := 0#32
  let arg0 : BitVec 32 := BitVec.ofNat 32 (i 0).val
  let c8_i32_897 : BitVec 32 := 8#32
  let v1349 : BitVec 32 := Scalar.muli arg0 c8_i32_897
  let c0_i32_899 : BitVec 32 := 0#32
  let v1351 : BitVec 1 := Scalar.cmpi .sgt v1349 c0_i32_899
  let v1352 : BitVec 32 := Scalar.extui v1351
  let c0_i32_900 : BitVec 32 := 0#32
  let v1353 : BitVec 1 := Scalar.cmpi .slt v1349 c0_i32_900
  let v1354 : BitVec 32 := Scalar.extui v1353
  let v1355 : BitVec 32 := Scalar.subi v1352 v1354
  let c128_i32_898 : BitVec 32 := 128#32
  let c0_i32_901 : BitVec 32 := 0#32
  let v1356 : BitVec 1 := Scalar.cmpi .sgt c128_i32_898 c0_i32_901
  let v1357 : BitVec 32 := Scalar.extui v1356
  let c0_i32_902 : BitVec 32 := 0#32
  let v1358 : BitVec 1 := Scalar.cmpi .slt c128_i32_898 c0_i32_902
  let v1359 : BitVec 32 := Scalar.extui v1358
  let v1360 : BitVec 32 := Scalar.subi v1357 v1359
  let v1361 : BitVec 1 := Scalar.cmpi .ne v1355 v1360
  let v1362 : BitVec 32 := Scalar.remsi v1349 c128_i32_898
  let c0_i32_903 : BitVec 32 := 0#32
  let v1363 : BitVec 1 := Scalar.cmpi .ne v1362 c0_i32_903
  let v1364 : BitVec 1 := Scalar.andi v1361 v1363
  let v1350 : BitVec 32 := Scalar.divsi v1349 c128_i32_898
  let c1_i32_904 : BitVec 32 := 1#32
  let v1365 : BitVec 32 := Scalar.subi v1350 c1_i32_904
  let v1366 : BitVec 32 := Scalar.select v1364 v1365 v1350
  let c128_i32_905 : BitVec 32 := 128#32
  let v1367 : BitVec 32 := Scalar.muli v1366 c128_i32_905
  let v1368 : BitVec 32 := v1367
  let v1375 : Index := Scalar.indexCast v1368
  ![0, v1375.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S2x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S160x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S160x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S160x1x1024 : Shape := ⟨3, ![160, 1, 1024]⟩
abbrev S2x49152x1024 : Shape := ⟨3, ![2, 49152, 1024]⟩
abbrev S2x384x8 : Shape := ⟨3, ![2, 384, 8]⟩
abbrev S160x49152 : Shape := ⟨2, ![160, 49152]⟩
abbrev S160x1024 : Shape := ⟨2, ![160, 1024]⟩
abbrev S160x8 : Shape := ⟨2, ![160, 8]⟩
abbrev S160x384 : Shape := ⟨2, ![160, 384]⟩
abbrev S160x8x128 : Shape := ⟨3, ![160, 8, 128]⟩
abbrev S1x1x256 : Shape := ⟨3, ![1, 1, 256]⟩
abbrev S160x8x1 : Shape := ⟨3, ![160, 8, 1]⟩
abbrev S160x8x256 : Shape := ⟨3, ![160, 8, 256]⟩
abbrev S2x384x128x8x128 : Shape := ⟨5, ![2, 384, 128, 8, 128]⟩
abbrev S2x384x1x8x1 : Shape := ⟨5, ![2, 384, 1, 8, 1]⟩
abbrev S1x49152x1024 : Shape := ⟨3, ![1, 49152, 1024]⟩
abbrev S49152x1024 : Shape := ⟨2, ![49152, 1024]⟩
abbrev S160x384x128 : Shape := ⟨3, ![160, 384, 128]⟩
abbrev S160x384x1 : Shape := ⟨3, ![160, 384, 1]⟩
abbrev S160x384x256 : Shape := ⟨3, ![160, 384, 256]⟩

abbrev nBuf : Space → Nat
  | .hbm => 8
  | .vmem => 8
  | .smem => 0
  | _ => 0

abbrev bufTy : (tb : Table) → Fin (tcTables nBuf tb) → BufTy
  | .hbm, ⟨0, _⟩ => ⟨S160x1x1024, .bf16⟩
  | .hbm, ⟨1, _⟩ => ⟨S2x49152x1024, .fp8e4m3⟩
  | .hbm, ⟨2, _⟩ => ⟨S2x384x8, .f32⟩
  | .hbm, ⟨3, _⟩ => ⟨S160x49152, .bf16⟩
  | .hbm, ⟨4, _⟩ => ⟨S160x1024, .fp8e4m3⟩
  | .hbm, ⟨5, _⟩ => ⟨S160x8, .f32⟩
  | .hbm, ⟨6, _⟩ => ⟨S160x49152, .fp8e4m3⟩
  | .hbm, ⟨7, _⟩ => ⟨S160x384, .f32⟩
  | .local _ .vmem, ⟨0, _⟩ => ⟨S160x1x1024, .bf16⟩
  | .local _ .vmem, ⟨1, _⟩ => ⟨S2x49152x1024, .fp8e4m3⟩
  | .local _ .vmem, ⟨2, _⟩ => ⟨S2x384x8, .f32⟩
  | .local _ .vmem, ⟨3, _⟩ => ⟨S160x49152, .bf16⟩
  | .local _ .vmem, ⟨4, _⟩ => ⟨S160x1024, .fp8e4m3⟩
  | .local _ .vmem, ⟨5, _⟩ => ⟨S160x8, .f32⟩
  | .local _ .vmem, ⟨6, _⟩ => ⟨S160x49152, .fp8e4m3⟩
  | .local _ .vmem, ⟨7, _⟩ => ⟨S160x384, .f32⟩
  | _, _ => ⟨S160x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S160x1x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x49152x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x49152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x49152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KStep.lean ====
module

public import proofs.«01_k».proof.Proof.Gen.Kernel
public import Idealize.ShloMosaic.Lib.Pipeline.FrameBody
public import Idealize.ShloMosaic.Lib.Pipeline.Value

@[expose] public section

set_option maxRecDepth 16384

noncomputable section

/-! What one grid step computes, as functions of what it loads. Each function spells the printed operations in
    the printed order, once for all groups, weight tiles and column chunks. -/

namespace Cert.Kernel.Step

open Cert.Kernel Cert.Kernel.Gen Idealize.ShloMosaic Idealize.SL.Sem
open Idealize.ShloMosaic.View (ld Piece)

variable {F : FTy → Type} [FloatOps F]

/-! ## The quantiser of one group of 128 columns -/

/-- The largest magnitude of each row. -/
def amax (v : FVec F S160x128 .f32) : FVec F S160 .f32 :=
  multiReduction .maximumf [1] S160 (absf v) 0xFF800000#32 reduces_S160x128_S160 (.inl rfl) rfl

/-- The exponent field that the scale is made of, from the rows' largest magnitudes: the exponent bits of
    `amax / 448`, or 126 in their place when they are zero. -/
def expWord (a : FVec F S160 .f32) : IVec S160x1 32 :=
  have p : FVec F S160x1 .f32 := mulf (shapeCast S160x1 a shapeCasts_S160_S160x1) (broadcast S160x1 (Scalar.ofBits .f32 0x3B124925#32))
  have b : IVec S160x256 32 := shli (iota .tc S160x256 32 [1] iota_S160x256_d1_w32) (broadcast S160x256 23#32)
  have lt : IVec S160x256 1 := cmpf .olt (broadcastTo S160x256 p broadcasts_S160x1_S160x256) (bitcastToFloat .f32 b)
  have s : IVec S160x256 32 := select (xori lt (constantI S160x256 1 1#1)) b (broadcast S160x256 0#32)
  have e : IVec S160x1 32 := shapeCast S160x1 (multiReductionI .maxsi [1] S160 s 2147483648#32 reduces_S160x256_S160 rfl) shapeCasts_S160_S160x1
  select (cmpi .eq e (broadcast S160x1 0#32)) (broadcast S160x1 1056964608#32) e

/-- The rows' scales. -/
def scaleOf (a : FVec F S160 .f32) : FVec F S160x1 .f32 :=
  bitcastToFloat .f32 (addi (expWord a) (broadcast S160x1 8388608#32))

/-- The rows' inverse scales. -/
def invOf (a : FVec F S160 .f32) : FVec F S160x1 .f32 :=
  bitcastToFloat .f32 (subi (broadcast S160x1 2122317824#32) (expWord a))

/-- The codes of a group whose rows' largest magnitudes are `a`. -/
def codesOf (v : FVec F S160x128 .f32) (a : FVec F S160 .f32) : FVec F S160x128 .fp8e4m3 :=
  truncf .fp8e4m3 (minimumf (broadcast S160x128 (Scalar.ofBits .f32 0x43E00000#32))
    (maximumf (broadcast S160x128 (Scalar.ofBits .f32 0xC3E00000#32))
      (mulf v (broadcastTo S160x128 (invOf a) broadcasts_S160x1_S160x128)))) bitsLt_fp8e4m3_f32

/-! ## The first step: the quantised input -/

/-- Columns `128 k` to `128 k + 127` of a 160 by 1024 buffer. -/
def rX (k : Fin 8) : Rect S160x1024 :=
  Rect.unit (s := S160x1024) ![0, 128 * k.val] S160x128.size (by intro a; fin_cases a <;> simp <;> omega)

/-- Column `k` of the scales' buffer. -/
def rS (k : Fin 8) : Rect S160x8 :=
  Rect.unit (s := S160x8) ![0, k.val] S160x1.size (by intro a; fin_cases a <;> simp <;> omega)

/-- Group `k` of the input. -/
def xGroup (x : Vec F S160x1024 .bf16) (k : Fin 8) : FVec F S160x128 .f32 :=
  extf .f32 (shapeCast S160x128 (ld x (rX k)) shapeCasts_S160x128_S160x128) bitsLt_bf16_f32

/-- The input's codes, group `k`. -/
def xCodes (x : Vec F S160x1024 .bf16) (k : Fin 8) : FVec F S160x128 .fp8e4m3 := codesOf (xGroup x k) (amax (xGroup x k))

/-- The input's scales, group `k`. -/
def xScale (x : Vec F S160x1024 .bf16) (k : Fin 8) : FVec F S160x1 .f32 := scaleOf (amax (xGroup x k))

/-- The dequantised input, group `k`. -/
def xDeq (x : Vec F S160x1024 .bf16) (k : Fin 8) : FVec F S160x128 .bf16 :=
  shapeCast S160x128 (mulf (extf .bf16 (xCodes x k) bitsLt_fp8e4m3_bf16)
    (broadcastTo S160x128 (truncf .bf16 (xScale x k) bitsLt_bf16_f32) broadcasts_S160x1_S160x128)) shapeCasts_S160x128_S160x128

/-! ## Every step: 256 output columns at a time -/

/-- Tile `(g, k)` of weight matrix `h` of the step's block. -/
def rW (h : Fin 2) (g k : Fin 8) : Rect S2x1024x1024 :=
  Rect.unit (s := S2x1024x1024) ![h.val, 128 * g.val, 128 * k.val] S1x128x128.size (by intro a; fin_cases a <;> simp <;> omega)

/-- That tile's scale. -/
def rWS (h : Fin 2) (g k : Fin 8) : Rect S2x8x8 :=
  Rect.unit (s := S2x8x8) ![h.val, g.val, k.val] S1x1x1.size (by intro a; fin_cases a <;> simp <;> omega)

/-- The dequantised tile. -/
def wTile (w : Vec F S2x1024x1024 .fp8e4m3) (ws : Vec F S2x8x8 .f32) (h : Fin 2) (g k : Fin 8) : FVec F S128x128 .bf16 :=
  mulf (extf .bf16 (shapeCast S128x128 (ld w (rW h g k)) shapeCasts_S1x128x128_S128x128) bitsLt_fp8e4m3_bf16)
    (truncf .bf16 (broadcast S128x128 (ld ws (rWS h g k) (Shape.Idx.first (show 0 < S1x1x1.numel by decide)))) bitsLt_bf16_f32)

/-- The groups of rows of chunk `j`. -/
def grp (j : Fin 4) (i : Fin 2) : Fin 8 := ⟨2 * j.val + i.val, by omega⟩

/-- The dequantised rows of chunk `j`, columns of group `k`. -/
def wCol (w : Vec F S2x1024x1024 .fp8e4m3) (ws : Vec F S2x8x8 .f32) (h : Fin 2) (j : Fin 4) (k : Fin 8) : FVec F S256x128 .bf16 :=
  concatenate S256x128 0 [⟨S128x128, wTile w ws h (grp j 0) k⟩, ⟨S128x128, wTile w ws h (grp j 1) k⟩] concatenates_S128x128_S128x128_S256x128_d0

/-- The dequantised rows of chunk `j`. -/
def wSub (w : Vec F S2x1024x1024 .fp8e4m3) (ws : Vec F S2x8x8 .f32) (h : Fin 2) (j : Fin 4) : FVec F S256x1024 .bf16 :=
  concatenate S256x1024 1 [⟨S256x128, wCol w ws h j 0⟩, ⟨S256x128, wCol w ws h j 1⟩, ⟨S256x128, wCol w ws h j 2⟩, ⟨S256x128, wCol w ws h j 3⟩,
    ⟨S256x128, wCol w ws h j 4⟩, ⟨S256x128, wCol w ws h j 5⟩, ⟨S256x128, wCol w ws h j 6⟩, ⟨S256x128, wCol w ws h j 7⟩]
    concatenates_S256x128_S256x128_S256x128_S256x128_S256x128_S256x128_S256x128_S256x128_S256x1024_d1

/-- The product of the dequantised input with chunk `j` of matrix `h`. -/
def prod (xd : Vec F S160x1024 .bf16) (w : Vec F S2x1024x1024 .fp8e4m3) (ws : Vec F S2x8x8 .f32) (h : Fin 2) (j : Fin 4) : FVec F S160x256 .f32 :=
  matmul dot_S160x1024_S256x1024_S160x256_1_1_0_0_n_n none xd (wSub w ws h j) (constant S160x256 .f32 0x00000000#32)

/-- The gated activation of chunk `j`. -/
def actF (xd : Vec F S160x1024 .bf16) (w : Vec F S2x1024x1024 .fp8e4m3) (ws : Vec F S2x8x8 .f32) (j : Fin 4) : FVec F S160x256 .f32 :=
  mulf (mulf (prod xd w ws 0 j) (logistic (prod xd w ws 0 j))) (prod xd w ws 1 j)

/-- The activation as stored. -/
def actB (xd : Vec F S160x1024 .bf16) (w : Vec F S2x1024x1024 .fp8e4m3) (ws : Vec F S2x8x8 .f32) (j : Fin 4) : FVec F S160x256 .bf16 :=
  truncf .bf16 (actF xd w ws j) bitsLt_bf16_f32

/-- Group `i` of chunk `j` of the activation. -/
def aGroup (xd : Vec F S160x1024 .bf16) (w : Vec F S2x1024x1024 .fp8e4m3) (ws : Vec F S2x8x8 .f32) (j : Fin 4) : Fin 2 → FVec F S160x128 .f32
  | 0 => extractStridedSlice S160x128 ![0, 0] (actF xd w ws j) slices_S160x256_o0_0_S160x128
  | 1 => extractStridedSlice S160x128 ![0, 128] (actF xd w ws j) slices_S160x256_o0_128_S160x128

/-- The activation's codes, group `i` of chunk `j`. -/
def aCodes (xd : Vec F S160x1024 .bf16) (w : Vec F S2x1024x1024 .fp8e4m3) (ws : Vec F S2x8x8 .f32) (j : Fin 4) (i : Fin 2) : FVec F S160x128 .fp8e4m3 :=
  codesOf (aGroup xd w ws j i) (amax (aGroup xd w ws j i))

/-- The activation's scales, group `i` of chunk `j`. -/
def aScale (xd : Vec F S160x1024 .bf16) (w : Vec F S2x1024x1024 .fp8e4m3) (ws : Vec F S2x8x8 .f32) (j : Fin 4) (i : Fin 2) : FVec F S160x1 .f32 :=
  scaleOf (amax (aGroup xd w ws j i))

/-- The lanes of a 160 by 128 vector. -/
def lane : IVec S160x128 32 := iota .tc S160x128 32 [1] iota_S160x128_d1_w32

/-- `s` with the scale column `a` put at the lane of group `i` of chunk `j`, the step's first lane being `l`. -/
def put (l : BitVec 32) (j : Fin 4) (i : Fin 2) (a : FVec F S160x1 .f32) (s : FVec F S160x128 .f32) : FVec F S160x128 .f32 :=
  select (cmpi .eq lane (broadcast S160x128 (Scalar.addi (Scalar.addi l (BitVec.ofNat 32 (2 * j.val))) (BitVec.ofNat 32 i.val))))
    (broadcastTo S160x128 (shapeCast S160x1 a shapeCasts_S160x1_S160x1) broadcasts_S160x1_S160x128) s

/-- The step's eight scale columns on their lanes, zero on the others. -/
def laneScales (l : BitVec 32) (xd : Vec F S160x1024 .bf16) (w : Vec F S2x1024x1024 .fp8e4m3) (ws : Vec F S2x8x8 .f32) : FVec F S160x128 .f32 :=
  put l 3 1 (aScale xd w ws 3 1) (put l 3 0 (aScale xd w ws 3 0) (put l 2 1 (aScale xd w ws 2 1) (put l 2 0 (aScale xd w ws 2 0)
    (put l 1 1 (aScale xd w ws 1 1) (put l 1 0 (aScale xd w ws 1 0) (put l 0 1 (aScale xd w ws 0 1) (put l 0 0 (aScale xd w ws 0 0)
      (broadcast S160x128 (Scalar.ofBits .f32 0x00000000#32)))))))))

/-- The scales' lanes after the step: the step's own eight lanes from `s`, the others from `old`. -/
def merge (l : BitVec 32) (s old : FVec F S160x128 .f32) : FVec F S160x128 .f32 :=
  select (andi (cmpi .sge lane (broadcast S160x128 l)) (cmpi .slt lane (broadcast S160x128 (Scalar.addi l 8#32)))) s
    (shapeCast S160x128 old shapeCasts_S160x128_S160x128)

/-- The step's first lane among the 128 it writes into. -/
def lane0 (i : grid0.Coords) : BitVec 32 := BitVec.ofNat 32 (8 * (i 0).val % 128)

/-! ## Whole blocks, put together from their columns -/

/-- Row `r`, column `c` of a group. -/
def at128 (r : Fin 160) (c : Fin 128) : S160x128.Idx := fun a => match a with | ⟨0, _⟩ => r | ⟨1, _⟩ => c

/-- Row `r`, column `c` of a chunk. -/
def at256 (r : Fin 160) (c : Fin 256) : S160x256.Idx := fun a => match a with | ⟨0, _⟩ => r | ⟨1, _⟩ => c

/-- Row `r` of a column. -/
def at1 (r : Fin 160) : S160x1.Idx := fun a => match a with | ⟨0, _⟩ => r | ⟨1, _⟩ => (0 : Fin 1)

/-- Eight groups side by side. -/
def join8 {α : Type} (V : Fin 8 → S160x128.Idx → α) : S160x1024.Idx → α := fun y =>
  V ⟨(y 1).val / 128, by have h : (y 1).val < 1024 := (y 1).isLt; omega⟩ (at128 (y 0) ⟨(y 1).val % 128, by omega⟩)

/-- Four chunks side by side. -/
def join4 {α : Type} (V : Fin 4 → S160x256.Idx → α) : S160x1024.Idx → α := fun y =>
  V ⟨(y 1).val / 256, by have h : (y 1).val < 1024 := (y 1).isLt; omega⟩ (at256 (y 0) ⟨(y 1).val % 256, by omega⟩)

/-- Eight columns side by side. -/
def cols8 {α : Type} (V : Fin 8 → S160x1.Idx → α) : S160x8.Idx → α := fun y => V (y 1) (at1 (y 0))

/-- Columns `256 j` to `256 j + 255` of a 160 by 1024 buffer. -/
def rC (j : Fin 4) : Rect S160x1024 :=
  Rect.unit (s := S160x1024) ![0, 256 * j.val] S160x256.size (by intro a; fin_cases a <;> simp <;> omega)

/-- Eight blocks of 128 columns side by side, read inside one of them. -/
theorem join8_emb {α : Type} (V : Fin 8 → S160x128.Idx → α) (k : Fin 8) (x : S160x128.Idx) : V k x = join8 V ((rX k).emb x) := by
  have h1 : (((rX k).emb x) 1).val = 128 * k.val + 1 * (x 1).val := rfl
  have h0 : (((rX k).emb x) 0).val = 0 + 1 * (x 0).val := rfl
  have hx : (x 1).val < 128 := (x 1).isLt
  unfold join8
  have e1 : (⟨(((rX k).emb x) 1).val / 128, by have h : (((rX k).emb x) 1).val < 1024 := (((rX k).emb x) 1).isLt; omega⟩ : Fin 8) = k := Fin.ext (by show _ / 128 = _; omega)
  have e2 : at128 (((rX k).emb x) 0) ⟨(((rX k).emb x) 1).val % 128, by omega⟩ = x := by
    funext a
    match a with
    | ⟨0, _⟩ => exact Fin.ext (by show (((rX k).emb x) 0).val = (x 0).val; omega)
    | ⟨1, _⟩ => exact Fin.ext (by show (((rX k).emb x) 1).val % 128 = (x 1).val; omega)
  rw [e1, e2]

/-- Four blocks of 256 columns side by side, read inside one of them. -/
theorem join4_emb {α : Type} (V : Fin 4 → S160x256.Idx → α) (k : Fin 4) (x : S160x256.Idx) : V k x = join4 V ((rC k).emb x) := by
  have h1 : (((rC k).emb x) 1).val = 256 * k.val + 1 * (x 1).val := rfl
  have h0 : (((rC k).emb x) 0).val = 0 + 1 * (x 0).val := rfl
  have hx : (x 1).val < 256 := (x 1).isLt
  unfold join4
  have e1 : (⟨(((rC k).emb x) 1).val / 256, by have h : (((rC k).emb x) 1).val < 1024 := (((rC k).emb x) 1).isLt; omega⟩ : Fin 4) = k := Fin.ext (by show _ / 256 = _; omega)
  have e2 : at256 (((rC k).emb x) 0) ⟨(((rC k).emb x) 1).val % 256, by omega⟩ = x := by
    funext a
    match a with
    | ⟨0, _⟩ => exact Fin.ext (by show (((rC k).emb x) 0).val = (x 0).val; omega)
    | ⟨1, _⟩ => exact Fin.ext (by show (((rC k).emb x) 1).val % 256 = (x 1).val; omega)
  rw [e1, e2]

/-- Eight columns side by side, read inside one of them. -/
theorem cols8_emb {α : Type} (V : Fin 8 → S160x1.Idx → α) (k : Fin 8) (x : S160x1.Idx) : V k x = cols8 V ((rS k).emb x) := by
  have h1 : (((rS k).emb x) 1).val = k.val + 1 * (x 1).val := rfl
  have h0 : (((rS k).emb x) 0).val = 0 + 1 * (x 0).val := rfl
  have hx : (x 1).val < 1 := (x 1).isLt
  unfold cols8
  have e1 : ((rS k).emb x) 1 = k := Fin.ext (by omega)
  have e2 : at1 (((rS k).emb x) 0) = x := by
    funext a
    match a with
    | ⟨0, _⟩ => exact Fin.ext (by show (((rS k).emb x) 0).val = (x 0).val; omega)
    | ⟨1, _⟩ => exact Fin.ext (by show 0 = (x 1).val; omega)
  rw [e1, e2]

/-- The dequantised input. -/
def xDeqBlk (x : Vec F S160x1024 .bf16) : Vec F S160x1024 .bf16 := join8 (xDeq x)

/-- The input's codes. -/
def xCodesBlk (x : Vec F S160x1024 .bf16) : Vec F S160x1024 .fp8e4m3 := join8 (xCodes x)

/-- The input's scales. -/
def xScaleBlk (x : Vec F S160x1024 .bf16) : Vec F S160x8 .f32 := cols8 (xScale x)

/-- The chunk of group `k`, and which half of it the group is. -/
def chunkOf (k : Fin 8) : Fin 4 := ⟨k.val / 2, by omega⟩
/-- Which half of its 256 columns the `k`-th group is. -/
def halfOf (k : Fin 8) : Fin 2 := ⟨k.val % 2, by omega⟩

/-- The step's activation block. -/
def actBlk (xd : Vec F S160x1024 .bf16) (w : Vec F S2x1024x1024 .fp8e4m3) (ws : Vec F S2x8x8 .f32) : Vec F S160x1024 .bf16 := join4 (actB xd w ws)

/-- The step's block of activation codes. -/
def aCodesBlk (xd : Vec F S160x1024 .bf16) (w : Vec F S2x1024x1024 .fp8e4m3) (ws : Vec F S2x8x8 .f32) : Vec F S160x1024 .fp8e4m3 :=
  join8 fun k => aCodes xd w ws (chunkOf k) (halfOf k)

/-- The pieces of the activation block, as the step stores them. -/
def actPieces (xd : Vec F S160x1024 .bf16) (w : Vec F S2x1024x1024 .fp8e4m3) (ws : Vec F S2x8x8 .f32) : List (Piece (Elt F) S160x1024 .bf16) :=
  [⟨rC 3, actB xd w ws 3⟩, ⟨rC 2, actB xd w ws 2⟩, ⟨rC 1, actB xd w ws 1⟩, ⟨rC 0, actB xd w ws 0⟩]

/-- The pieces of the block of activation codes, as the step stores them. -/
def aCodesPieces (xd : Vec F S160x1024 .bf16) (w : Vec F S2x1024x1024 .fp8e4m3) (ws : Vec F S2x8x8 .f32) : List (Piece (Elt F) S160x1024 .fp8e4m3) :=
  [⟨rX 7, aCodes xd w ws 3 1⟩, ⟨rX 6, aCodes xd w ws 3 0⟩, ⟨rX 5, aCodes xd w ws 2 1⟩, ⟨rX 4, aCodes xd w ws 2 0⟩,
    ⟨rX 3, aCodes xd w ws 1 1⟩, ⟨rX 2, aCodes xd w ws 1 0⟩, ⟨rX 1, aCodes xd w ws 0 1⟩, ⟨rX 0, aCodes xd w ws 0 0⟩]

/-- Eight groups as pieces, the last stored first. -/
def pieces8 {e : EltTy} (V : Fin 8 → S160x128.Idx → Elt F e) : List (Piece (Elt F) S160x1024 e) :=
  [⟨rX 7, V 7⟩, ⟨rX 6, V 6⟩, ⟨rX 5, V 5⟩, ⟨rX 4, V 4⟩, ⟨rX 3, V 3⟩, ⟨rX 2, V 2⟩, ⟨rX 1, V 1⟩, ⟨rX 0, V 0⟩]

/-- Eight columns as pieces, the last stored first. -/
def colPieces8 {e : EltTy} (V : Fin 8 → S160x1.Idx → Elt F e) : List (Piece (Elt F) S160x8 e) :=
  [⟨rS 7, V 7⟩, ⟨rS 6, V 6⟩, ⟨rS 5, V 5⟩, ⟨rS 4, V 4⟩, ⟨rS 3, V 3⟩, ⟨rS 2, V 2⟩, ⟨rS 1, V 1⟩, ⟨rS 0, V 0⟩]

/-- Eight stores of 128 columns fill the block. -/
theorem cover_pieces8 {e : EltTy} (V : Fin 8 → S160x128.Idx → Elt F e) : ∀ y, ∃ p ∈ pieces8 V, y ∈ p.1.set :=
  View.cover_of_tiled (pieces8 V) S160x128.size (by rfl)

/-- Eight stores of a column fill the block. -/
theorem cover_colPieces8 {e : EltTy} (V : Fin 8 → S160x1.Idx → Elt F e) : ∀ y, ∃ p ∈ colPieces8 V, y ∈ p.1.set :=
  View.cover_of_tiled (colPieces8 V) S160x1.size (by rfl)

/-- Four stores of 256 columns fill the block. -/
theorem cover_actPieces (xd : Vec F S160x1024 .bf16) (w : Vec F S2x1024x1024 .fp8e4m3) (ws : Vec F S2x8x8 .f32) :
    ∀ y, ∃ p ∈ actPieces xd w ws, y ∈ p.1.set :=
  View.cover_of_tiled (actPieces xd w ws) S160x256.size (by rfl)

/-- What eight stores of 128 columns leave. -/
theorem canon_pieces8 {e : EltTy} (V : Fin 8 → S160x128.Idx → Elt F e) : View.canon (pieces8 V) = join8 V :=
  funext fun y => View.canon_apply_of_pieces (join8 V) (pieces8 V)
    (by intro p hp x; simp only [pieces8, List.mem_cons, List.not_mem_nil, or_false] at hp
        rcases hp with rfl | rfl | rfl | rfl | rfl | rfl | rfl | rfl <;> exact join8_emb V _ x) y (cover_pieces8 V y)

/-- What eight stores of a column leave. -/
theorem canon_colPieces8 {e : EltTy} (V : Fin 8 → S160x1.Idx → Elt F e) : View.canon (colPieces8 V) = cols8 V :=
  funext fun y => View.canon_apply_of_pieces (cols8 V) (colPieces8 V)
    (by intro p hp x; simp only [colPieces8, List.mem_cons, List.not_mem_nil, or_false] at hp
        rcases hp with rfl | rfl | rfl | rfl | rfl | rfl | rfl | rfl <;> exact cols8_emb V _ x) y (cover_colPieces8 V y)

/-- What four stores of 256 columns leave. -/
theorem canon_actPieces (xd : Vec F S160x1024 .bf16) (w : Vec F S2x1024x1024 .fp8e4m3) (ws : Vec F S2x8x8 .f32) :
    View.canon (actPieces xd w ws) = actBlk xd w ws :=
  funext fun y => View.canon_apply_of_pieces (actBlk xd w ws) (actPieces xd w ws)
    (by intro p hp x; simp only [actPieces, List.mem_cons, List.not_mem_nil, or_false] at hp
        rcases hp with rfl | rfl | rfl | rfl <;> exact join4_emb (actB xd w ws) _ x) y (cover_actPieces xd w ws y)

/-- The stores of the activation's codes, by group. -/
theorem aCodesPieces_eq (xd : Vec F S160x1024 .bf16) (w : Vec F S2x1024x1024 .fp8e4m3) (ws : Vec F S2x8x8 .f32) :
    aCodesPieces xd w ws = pieces8 fun k => aCodes xd w ws (chunkOf k) (halfOf k) := rfl

end Cert.Kernel.Step

end
-- ==== Proof.KBody.lean ====
module

public import proofs.«01_k».proof.Proof.Gen.Kernel.Frame
public import proofs.«01_k».proof.Proof.Gen.Kernel.Skeleton
public import Idealize.ShloMosaic.Lib.Pipeline.FrameBody
public import Idealize.ShloMosaic.Lib.WritesUnit
public import proofs.«01_k».proof.Proof.KStep

@[expose] public section

set_option maxRecDepth 16384

noncomputable section

namespace Cert.Kernel.Body

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first of the 128 columns of scales the step writes into. -/
def offA (i : grid0.Coords) : ℕ := 128 * ((i 0).val / 16)

/-- The offset of the lanes that a grid step reads and writes. -/
theorem k0_off1_eq : ∀ i : grid0.Coords, k0_off1 i = ![0, offA i] := by decide +kernel

/-- These lanes are inside the array. -/
theorem offA_le : ∀ i : grid0.Coords, offA i + 128 ≤ 384 := by decide +kernel

/-- The 128 columns of scales the step writes into. -/
def rA (i : grid0.Coords) : Rect S160x384 := Rect.unit (s := S160x384) (k0_off1 i) S160x128.size (k0_off1_inb i)

/-- The scales' buffer after the step, from what it held before. -/
def newS (i : grid0.Coords) (xd : Vec F S160x1024 .bf16) (w : Vec F S2x1024x1024 .fp8e4m3) (ws : Vec F S2x8x8 .f32) (y : Vec F S160x384 .f32) :
    Vec F S160x384 .f32 := fun q =>
  if h : offA i ≤ (q 1).val ∧ (q 1).val < offA i + 128 then
    merge (lane0 i) (laneScales (lane0 i) xd w ws) (View.ld y (rA i)) (at128 (q 0) ⟨(q 1).val - offA i, by omega⟩)
  else y q

/-- One store into the 128 columns, read back. -/
theorem read_newS (v : View sig .tc .vmem S160x384 .f32) (f : v.ty.Contents (Elt F)) (i : grid0.Coords) (l : BitVec 32) (hl : l = lane0 i)
    (xd : Vec F S160x1024 .bf16) (w : Vec F S2x1024x1024 .fp8e4m3) (ws : Vec F S2x8x8 .f32) (y : Vec F S160x384 .f32) (hy : v.read (Elt F) f = y) :
    v.read (Elt F) (v.writes (Elt F) f [⟨rA i, merge l (laneScales l xd w ws) (View.ld y (rA i))⟩]) = newS i xd w ws y := by
  subst hl
  funext q
  unfold newS
  by_cases h : offA i ≤ (q 1).val ∧ (q 1).val < offA i + 128
  · rw [dif_pos h]
    refine View.read_writes_cons_unit_of_mem v f _ _ [] q _ (k0_off1_eq i) fun a => ?_
    match a with
    | ⟨0, _⟩ => show (q 0).val = 0 + (q 0).val; omega
    | ⟨1, _⟩ => show (q 1).val = offA i + ((q 1).val - offA i); omega
  · rw [dif_neg h]
    refine (View.read_writes_cons_unit_of_not_mem v f _ _ [] q (k0_off1_eq i) 1 ?_).trans ?_
    · show (q 1).val < offA i ∨ offA i + 128 ≤ (q 1).val; omega
    · rw [← hy]; rfl

/-- A load of the whole buffer is the buffer. -/
theorem ld_whole (v : View sig .tc .vmem S160x1024 .bf16) (f : v.ty.Contents (Elt F)) :
    View.readAt (Elt F) v (Rect.unit ![0, 0] S160x1024.size inb_S160x1024_S160x1024_0_0).toLoadRect f = v.read (Elt F) f := by
  funext x
  show v.read (Elt F) f _ = v.read (Elt F) f x
  congr 1
  funext a
  apply Fin.ext
  match a with
  | ⟨0, _⟩ => show 0 + 1 * (x 0).val = (x 0).val; omega
  | ⟨1, _⟩ => show 0 + 1 * (x 1).val = (x 1).val; omega

/-- Eight groups stored, read back. -/
theorem read_pieces8 {e : EltTy} (v : View sig .tc .vmem S160x1024 e) (f : v.ty.Contents (Elt F)) (V : Fin 8 → S160x128.Idx → Elt F e)
    (L : List (View.Piece (Elt F) S160x1024 e)) (h : L = pieces8 V) : v.read (Elt F) (v.writes (Elt F) f L) = join8 V := by
  subst h
  exact (View.read_writes_eq_canon v f (pieces8 V) (cover_pieces8 V)).trans (canon_pieces8 V)

/-- Eight columns stored, read back. -/
theorem read_colPieces8 {e : EltTy} (v : View sig .tc .vmem S160x8 e) (f : v.ty.Contents (Elt F)) (V : Fin 8 → S160x1.Idx → Elt F e)
    (L : List (View.Piece (Elt F) S160x8 e)) (h : L = colPieces8 V) : v.read (Elt F) (v.writes (Elt F) f L) = cols8 V := by
  subst h
  exact (View.read_writes_eq_canon v f (colPieces8 V) (cover_colPieces8 V)).trans (canon_colPieces8 V)

/-- A load of the whole buffer after eight groups were stored is the groups side by side. -/
theorem readCov_whole (v : View sig .tc .vmem S160x1024 .bf16) (V : Fin 8 → S160x128.Idx → Elt F .bf16) :
    v.readCov (pieces8 V) (Rect.unit ![0, 0] S160x1024.size inb_S160x1024_S160x1024_0_0).toLoadRect = join8 V := by
  unfold View.readCov
  refine (ld_whole (F := F) v _).trans ?_
  exact (View.read_writes_eq_canon v _ (pieces8 V) (cover_pieces8 V)).trans (canon_pieces8 V)

set_option maxHeartbeats 4000000 in
/-- A step that is not the first: from its weights and scales and the dequantised input it leaves the activation block, its
    codes, and the scales' buffer with the step's lanes in. -/
theorem sound_rest (c : Dev nD) (E : Set ℕ) (i : grid0.Coords) (hc : ¬ k0_cond1 i = 1#1)
    (arg1 : Memref sig .tc .vmem S160x1024 .bf16) (harg1 : arg1.IsWhole) (arg2 : Memref sig .tc .vmem S2x1024x1024 .fp8e4m3) (harg2 : arg2.IsWhole)
    (arg3 : Memref sig .tc .smem S2x8x8 .f32) (harg3 : arg3.IsWhole) (arg4 : Memref sig .tc .vmem S160x1024 .bf16) (harg4 : arg4.IsWhole)
    (arg5 : Memref sig .tc .vmem S160x1024 .fp8e4m3) (harg5 : arg5.IsWhole) (arg6 : Memref sig .tc .vmem S160x8 .f32) (harg6 : arg6.IsWhole)
    (arg7 : Memref sig .tc .vmem S160x1024 .fp8e4m3) (harg7 : arg7.IsWhole) (arg8 : Memref sig .tc .vmem S160x384 .f32) (harg8 : arg8.IsWhole)
    (arg9 : Memref sig .tc .vmem S160x1024 .bf16) (harg9 : arg9.IsWhole)
    (x1 : Vec F S2x1024x1024 .fp8e4m3) (x2 : Vec F S2x8x8 .f32) (y : Vec F S160x384 .f32) (xd : Vec F S160x1024 .bf16) (K : PUnit → sProp 𝕄) :
    iprop(owns (c : Thread nD τ) arg2 fullShare x1 ∗ owns (c : Thread nD τ) arg3 fullShare x2 ∗ (∃ d, owns (c : Thread nD τ) arg4 fullShare d)
        ∗ (∃ d, owns (c : Thread nD τ) arg7 fullShare d) ∗ owns (c : Thread nD τ) arg8 fullShare y ∗ owns (c : Thread nD τ) arg9 fullShare xd
        ∗ (iprop(owns (c : Thread nD τ) arg2 fullShare x1 ∗ owns (c : Thread nD τ) arg3 fullShare x2 ∗ owns (c : Thread nD τ) arg4 fullShare (actBlk xd x1 x2)
            ∗ owns (c : Thread nD τ) arg7 fullShare (aCodesBlk xd x1 x2) ∗ owns (c : Thread nD τ) arg8 fullShare (newS i xd x1 x2 y)
            ∗ owns (c : Thread nD τ) arg9 fullShare xd) -∗ K ⟨⟩))
      ⊢ wp frame (wpE (defs₀ (F := F)) Variants.none c none) E (cc0_swiglu_fp8 i arg1 harg1 arg2 harg2 arg3 harg3 arg4 harg4 arg5 harg5 arg6 harg6 arg7 harg7 arg8 harg8 arg9 harg9) K := by
  simp only [cc0_swiglu_fp8_eq_skeleton]; unfold cc0_swiglu_fp8_skel
  unfold owns
  iintro ⟨⟨%f1, %hf1, H1⟩, ⟨%f2, %hf2, H2⟩, ⟨%d3, %f3, -, H3⟩, ⟨%d6, %f6, -, H6⟩, ⟨%f7, %hf7, H7⟩, ⟨%f8, %hf8, H8⟩, Hk⟩
  subst hf1 hf2 hf7 hf8
  sl_exec_parts
  sl_step
  have hv : sound_rest.sl.v15 i = lane0 i := (by decide +kernel : ∀ i : grid0.Coords, sound_rest.sl.v15 i = lane0 i) i
  have hxd := ld_whole (F := F) arg9.view f8
  iapply Hk
  isplitl [H1]
  · iexists f1; isplitr; · ipureintro; rfl
    iexact H1
  isplitl [H2]
  · iexists f2; isplitr; · ipureintro; rfl
    iexact H2
  isplitl [H3]
  · iexists _; isplitr
    · ipureintro
      rw [← hxd, ← canon_actPieces]
      exact View.read_writes_eq_canon arg4.view f3 (sound_rest.sl.H3_4 c arg2 arg3 arg9 f1 f2 f8) (cover_actPieces _ _ _)
    · iexact H3
  isplitl [H6]
  · iexists _; isplitr
    · ipureintro
      rw [← hxd]
      have e6 : (⟨Rect.unit ![0, 896] S160x128.size inb_S160x1024_S160x128_0_896, k0_pay198 (sound_rest.sl.r_249 (F := F) c arg2 arg3 arg9 f1 f2 f8)⟩ :: sound_rest.sl.H6_7 (F := F) c arg2 arg3 arg9 f1 f2 f8 : List (View.Piece (Elt F) S160x1024 .fp8e4m3)) =
          aCodesPieces (View.readAt (Elt F) arg9.view (Rect.unit ![0, 0] S160x1024.size inb_S160x1024_S160x1024_0_0).toLoadRect f8) (View.read (Elt F) arg2.view f1) (View.read (Elt F) arg3.view f2) := rfl
      exact read_pieces8 arg7.view f6 _ _ (e6.trans (aCodesPieces_eq _ _ _))
    · iexact H6
  isplitl [H7]
  · iexists _; isplitr
    · ipureintro
      rw [← hxd]
      exact read_newS arg8.view f7 i _ hv _ _ _ _ rfl
    · iexact H7
  iexists f8; isplitr; · ipureintro; rfl
  iexact H8

set_option maxHeartbeats 4000000 in
/-- The first step: it also quantises the input, leaving its codes, its scales and the dequantised input. -/
theorem sound_first (c : Dev nD) (E : Set ℕ) (i : grid0.Coords) (hc : k0_cond1 i = 1#1)
    (arg1 : Memref sig .tc .vmem S160x1024 .bf16) (harg1 : arg1.IsWhole) (arg2 : Memref sig .tc .vmem S2x1024x1024 .fp8e4m3) (harg2 : arg2.IsWhole)
    (arg3 : Memref sig .tc .smem S2x8x8 .f32) (harg3 : arg3.IsWhole) (arg4 : Memref sig .tc .vmem S160x1024 .bf16) (harg4 : arg4.IsWhole)
    (arg5 : Memref sig .tc .vmem S160x1024 .fp8e4m3) (harg5 : arg5.IsWhole) (arg6 : Memref sig .tc .vmem S160x8 .f32) (harg6 : arg6.IsWhole)
    (arg7 : Memref sig .tc .vmem S160x1024 .fp8e4m3) (harg7 : arg7.IsWhole) (arg8 : Memref sig .tc .vmem S160x384 .f32) (harg8 : arg8.IsWhole)
    (arg9 : Memref sig .tc .vmem S160x1024 .bf16) (harg9 : arg9.IsWhole)
    (x0 : Vec F S160x1024 .bf16) (x1 : Vec F S2x1024x1024 .fp8e4m3) (x2 : Vec F S2x8x8 .f32) (y : Vec F S160x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare y ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (actBlk (xDeqBlk x0) x1 x2)
            ∗ owns (c : Thread nD τ) arg5 fullShare (xCodesBlk x0) ∗ owns (c : Thread nD τ) arg6 fullShare (xScaleBlk x0)
            ∗ owns (c : Thread nD τ) arg7 fullShare (aCodesBlk (xDeqBlk x0) x1 x2) ∗ owns (c : Thread nD τ) arg8 fullShare (newS i (xDeqBlk x0) x1 x2 y)
            ∗ owns (c : Thread nD τ) arg9 fullShare (xDeqBlk x0)) -∗ K ⟨⟩))
      ⊢ wp frame (wpE (defs₀ (F := F)) Variants.none c none) E (cc0_swiglu_fp8 i arg1 harg1 arg2 harg2 arg3 harg3 arg4 harg4 arg5 harg5 arg6 harg6 arg7 harg7 arg8 harg8 arg9 harg9) K := by
  simp only [cc0_swiglu_fp8_eq_skeleton]; unfold cc0_swiglu_fp8_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%d8, %f8, -, H8⟩, Hk⟩
  subst hf0 hf1 hf2 hf7
  sl_exec_parts
  sl_step
  have hv : sound_first.sl.v15 i = lane0 i := (by decide +kernel : ∀ i : grid0.Coords, sound_first.sl.v15 i = lane0 i) i
  have hxd := readCov_whole (F := F) arg9.view (xDeq (View.read (Elt F) arg1.view f0))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    · ipureintro
      refine Eq.trans ?_ (congrArg (fun a => actBlk a _ _) hxd)
      refine Eq.trans ?_ (canon_actPieces _ _ _)
      exact View.read_writes_eq_canon arg4.view f3 (sound_first.sl.H3_4 c arg1 arg2 arg3 arg9 f0 f1 f2) (cover_actPieces _ _ _)
    · iexact H3
  isplitl [H4]
  · iexists _; isplitr
    · ipureintro
      have e : sound_first.sl.H4_8 (F := F) c arg1 f0 = pieces8 (F := F) (e := .fp8e4m3) (xCodes (View.read (Elt F) arg1.view f0)) := rfl
      exact read_pieces8 arg5.view f4 _ _ e
    · iexact H4
  isplitl [H5]
  · iexists _; isplitr
    · ipureintro
      have e : sound_first.sl.H5_8 (F := F) c arg1 f0 = colPieces8 (F := F) (e := .f32) (xScale (View.read (Elt F) arg1.view f0)) := rfl
      exact read_colPieces8 arg6.view f5 _ _ e
    · iexact H5
  isplitl [H6]
  · iexists _; isplitr
    · ipureintro
      refine Eq.trans ?_ (congrArg (fun a => aCodesBlk a _ _) hxd)
      have e6 : (⟨Rect.unit ![0, 896] S160x128.size inb_S160x1024_S160x128_0_896, k0_pay198 (sound_first.sl.r_265 (F := F) c arg1 arg2 arg3 arg9 f0 f1 f2)⟩ :: sound_first.sl.H6_7 (F := F) c arg1 arg2 arg3 arg9 f0 f1 f2 : List (View.Piece (Elt F) S160x1024 .fp8e4m3)) =
          aCodesPieces (arg9.view.readCov (pieces8 (xDeq (View.read (Elt F) arg1.view f0))) (Rect.unit ![0, 0] S160x1024.size inb_S160x1024_S160x1024_0_0).toLoadRect) (View.read (Elt F) arg2.view f1) (View.read (Elt F) arg3.view f2) := rfl
      exact read_pieces8 arg7.view f6 _ _ (e6.trans (aCodesPieces_eq _ _ _))
    · iexact H6
  isplitl [H7]
  · iexists _; isplitr
    · ipureintro
      refine Eq.trans ?_ (congrArg (fun a => newS i a _ _ _) hxd)
      exact read_newS arg8.view f7 i _ hv _ _ _ _ rfl
    · iexact H7
  iexists _; isplitr
  · ipureintro
    have e : sound_first.sl.H8_8 (F := F) c arg1 f0 = pieces8 (F := F) (e := .bf16) (xDeq (View.read (Elt F) arg1.view f0)) := rfl
    exact read_pieces8 arg9.view f8 _ _ e
  · iexact H8

end Cert.Kernel.Body

end
-- ==== Proof.KLane.lean ====
module

public import proofs.«01_k».proof.Proof.KBody
public import Idealize.ShloMosaic.Lib.Pipeline.FrameBody
public import Idealize.ShloMosaic.Lib.Pipeline.Value

@[expose] public section

set_option maxRecDepth 16384

noncomputable section

/-! The scales' buffer: the step puts its eight scale columns on its eight lanes and keeps the others. -/

namespace Cert.Kernel.Step

open Cert.Kernel Cert.Kernel.Gen Idealize.ShloMosaic Idealize.SL.Sem
open Idealize.ShloMosaic.View (ld Piece)
open Cert.Kernel.Body (offA offA_le rA newS k0_off1_eq)

variable {F : FTy → Type} [FloatOps F]

/-- The lane number. -/
theorem lane_apply (x : S160x128.Idx) : lane x = BitVec.ofNat 32 (x 1).val := by
  unfold lane
  show BitVec.ofNat 32 (0 * 128 + (x 1).val) = _
  rw [Nat.zero_mul, Nat.zero_add]

/-- The lane test of one group, on words. -/
theorem eqWord : ∀ (a : Fin 16) (j : Fin 4) (i : Fin 2) (p : Fin 128),
    IntOp.cmpi .eq (BitVec.ofNat 32 p.val) (Scalar.addi (Scalar.addi (BitVec.ofNat 32 (8 * a.val)) (BitVec.ofNat 32 (2 * j.val))) (BitVec.ofNat 32 i.val))
      = if p.val = 8 * a.val + (2 * j.val + i.val) then 1#1 else 0#1 := by decide +kernel

/-- The lane test of one grid step, on words. -/
theorem inWord : ∀ (a : Fin 16) (p : Fin 128),
    IntOp.andi (IntOp.cmpi .sge (BitVec.ofNat 32 p.val) (BitVec.ofNat 32 (8 * a.val))) (IntOp.cmpi .slt (BitVec.ofNat 32 p.val) (Scalar.addi (BitVec.ofNat 32 (8 * a.val)) 8#32))
      = if 8 * a.val ≤ p.val ∧ p.val < 8 * a.val + 8 then 1#1 else 0#1 := by decide +kernel

/-- A scale column is put at one lane. -/
theorem put_apply (a : Fin 16) (j : Fin 4) (i : Fin 2) (v : FVec F S160x1 .f32) (s : FVec F S160x128 .f32) (x : S160x128.Idx) :
    put (BitVec.ofNat 32 (8 * a.val)) j i v s x = if (x 1).val = 8 * a.val + (2 * j.val + i.val) then v (at1 (x 0)) else s x := by
  unfold put
  show Scalar.select (IntOp.cmpi .eq (lane x) _) (broadcastTo S160x128 _ _ x) (s x) = _
  rw [lane_apply]
  refine (congrArg (fun c => Scalar.select c _ _) (eqWord a j i ⟨(x 1).val, (x 1).isLt⟩)).trans ?_
  have hb : broadcastTo S160x128 (shapeCast S160x1 v shapeCasts_S160x1_S160x1) broadcasts_S160x1_S160x128 x = v (at1 (x 0)) := by
    rw [shapeCast_self]
    refine broadcastTo_apply _ _ _ _ fun b => ?_
    match b with
    | ⟨0, _⟩ => rfl
    | ⟨1, _⟩ => rfl
  rw [hb]
  by_cases h : (x 1).val = 8 * a.val + (2 * j.val + i.val)
  · rw [if_pos h, if_pos h]; rfl
  · rw [if_neg h, if_neg h]; rfl

/-- The lane of group `k` holds its scale column. -/
theorem laneScales_apply (a : Fin 16) (xd : Vec F S160x1024 .bf16) (w : Vec F S2x1024x1024 .fp8e4m3) (ws : Vec F S2x8x8 .f32) (k : Fin 8) (x : S160x128.Idx)
    (hx : (x 1).val = 8 * a.val + k.val) :
    laneScales (BitVec.ofNat 32 (8 * a.val)) xd w ws x = aScale xd w ws (chunkOf k) (halfOf k) (at1 (x 0)) := by
  unfold laneScales
  simp only [put_apply, hx, Nat.add_left_cancel_iff]
  fin_cases k <;> simp <;> rfl

/-- Inside the step's lanes the new scales, outside them the old. -/
theorem merge_apply (a : Fin 16) (s old : FVec F S160x128 .f32) (x : S160x128.Idx) :
    merge (BitVec.ofNat 32 (8 * a.val)) s old x = if 8 * a.val ≤ (x 1).val ∧ (x 1).val < 8 * a.val + 8 then s x else old x := by
  unfold merge
  show Scalar.select (IntOp.andi (IntOp.cmpi .sge (lane x) _) (IntOp.cmpi .slt (lane x) _)) (s x) (shapeCast S160x128 old _ x) = _
  rw [lane_apply, shapeCast_self]
  refine (congrArg (fun c => Scalar.select c _ _) (inWord a ⟨(x 1).val, (x 1).isLt⟩)).trans ?_
  by_cases h : 8 * a.val ≤ (x 1).val ∧ (x 1).val < 8 * a.val + 8
  · rw [if_pos h, if_pos h]; rfl
  · rw [if_neg h, if_neg h]; rfl

/-- The first lane of a grid step. -/
theorem lane0_eq (i : grid0.Coords) : lane0 i = BitVec.ofNat 32 (8 * (⟨(i 0).val % 16, by omega⟩ : Fin 16).val) := by
  unfold lane0
  congr 1
  show 8 * (i 0).val % 128 = 8 * ((i 0).val % 16)
  omega

/-- The step's own columns after it: group `k`'s is column `8 i + k`. -/
theorem newS_own (i : grid0.Coords) (xd : Vec F S160x1024 .bf16) (w : Vec F S2x1024x1024 .fp8e4m3) (ws : Vec F S2x8x8 .f32) (y : Vec F S160x384 .f32)
    (q : S160x384.Idx) (k : Fin 8) (hq : (q 1).val = 8 * (i 0).val + k.val) :
    newS i xd w ws y q = aScale xd w ws (chunkOf k) (halfOf k) (at1 (q 0)) := by
  have hk : k.val < 8 := k.isLt
  have hin : offA i ≤ (q 1).val ∧ (q 1).val < offA i + 128 := by unfold offA; omega
  unfold newS
  rw [dif_pos hin, lane0_eq]
  refine (merge_apply _ _ _ _).trans ?_
  rw [if_pos]
  · refine laneScales_apply _ xd w ws k _ ?_
    show (q 1).val - offA i = 8 * ((i 0).val % 16) + k.val
    unfold offA; omega
  · show 8 * ((i 0).val % 16) ≤ (q 1).val - offA i ∧ (q 1).val - offA i < 8 * ((i 0).val % 16) + 8
    unfold offA; omega

/-- The other columns are as they were. -/
theorem newS_other (i : grid0.Coords) (xd : Vec F S160x1024 .bf16) (w : Vec F S2x1024x1024 .fp8e4m3) (ws : Vec F S2x8x8 .f32) (y : Vec F S160x384 .f32)
    (q : S160x384.Idx) (hq : (q 1).val < 8 * (i 0).val) : newS i xd w ws y q = y q := by
  unfold newS
  by_cases hin : offA i ≤ (q 1).val ∧ (q 1).val < offA i + 128
  · rw [dif_pos hin, lane0_eq]
    refine (merge_apply _ _ _ _).trans ?_
    rw [if_neg]
    · show y ((rA i).idx _) = y q
      congr 1
      funext a
      apply Fin.ext
      match a with
      | ⟨0, _⟩ =>
        show (k0_off1 i) 0 + 1 * (q 0).val = (q 0).val
        rw [k0_off1_eq]; show 0 + 1 * (q 0).val = _; omega
      | ⟨1, _⟩ =>
        show (k0_off1 i) 1 + 1 * ((q 1).val - offA i) = (q 1).val
        rw [k0_off1_eq]; show offA i + 1 * ((q 1).val - offA i) = _; omega
    · show ¬(8 * ((i 0).val % 16) ≤ (q 1).val - offA i ∧ (q 1).val - offA i < 8 * ((i 0).val % 16) + 8)
      unfold offA at *; omega
  · rw [dif_neg hin]

end Cert.Kernel.Step

end
-- ==== Proof.KRun.lean ====
module

public import proofs.«01_k».proof.Proof.KLane
public import Idealize.ShloMosaic.Lib.Pipeline.DatRel
public import Idealize.ShloMosaic.Lib.Pipeline.ArrRel
public import Idealize.ShloMosaic.Lib.Pipeline.FrameBody
public import Idealize.ShloMosaic.Lib.Pipeline.Value

@[expose] public section

set_option maxRecDepth 16384

noncomputable section

/-! The run of the kernel: what every buffer holds point by point, and what the arrays hold at the end. -/

namespace Cert.Kernel.Run

open Cert.Kernel Cert.Kernel.Gen Cert.Kernel.Step Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def T0 : Fin cfg0.N := ⟨0, by decide⟩

/-- The whole input, as the first point finds it. -/
def XV (c : Dev nD) : Vec F S160x1024 .bf16 := iblk m c 0 T0

/-- The dequantised input. -/
def XD (c : Dev nD) : Vec F S160x1024 .bf16 := xDeqBlk (XV m c)

/-- The weights and the weights' scales of point `t`. -/
def WV (c : Dev nD) (t : Fin cfg0.N) : Vec F S2x1024x1024 .fp8e4m3 := iblk m c 1 t
/-- The weight scales of a grid step. -/
def WS (c : Dev nD) (t : Fin cfg0.N) : Vec F S2x8x8 .f32 := iblk m c 2 t

/-- The point that writes column `n` of the scales. -/
def ptOf (n : Fin 384) : Fin cfg0.N := ⟨n.val / 8, by rw [show cfg0.N = 48 from N_0]; omega⟩

/-- The scales of the whole activation. -/
def GS (c : Dev nD) (q : S160x384.Idx) : F .f32 :=
  aScale (XD m c) (WV m c (ptOf (q 1))) (WS m c (ptOf (q 1))) (chunkOf ⟨(q 1).val % 8, by omega⟩) (halfOf ⟨(q 1).val % 8, by omega⟩) (at1 (q 0))

/-- The invariant before point `n`: at the first the scratch holds anything, later the dequantised input. -/
def PhiS (c : Dev nD) : ℕ → sProp 𝕄
  | 0 => ΦA spec0 c
  | _ + 1 => iprop(owns (c : Thread nD τ) (Memref.whole cc0_scratch0) fullShare (XD m c) ∗ ∃ r, prngReg c r)

/-- The proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => actBlk (XD m c) (WV m c t) (WS m c t)
    | ⟨4, _⟩ => xCodesBlk (XV m c)
    | ⟨5, _⟩ => xScaleBlk (XV m c)
    | ⟨6, _⟩ => aCodesBlk (XD m c) (WV m c t) (WS m c t)
    | ⟨7, _⟩ => GS m c
  Φ t := PhiS m c t.val
  q _ := fullShare
  owed _ := 0

/-- The windows held to a predicate: those written back once, after the last point. -/
def fgt : Fin cfg0.W → Bool
  | ⟨0, _⟩ => false | ⟨1, _⟩ => false | ⟨2, _⟩ => false | ⟨3, _⟩ => false
  | ⟨4, _⟩ => true | ⟨5, _⟩ => true | ⟨6, _⟩ => false | ⟨7, _⟩ => true

/-- What they hold after point `t`: the input's codes and scales, and the scales of the columns done so far. -/
def Rl (c : Dev nD) (w : Fin cfg0.W) (t : Fin cfg0.N) (X : (cfg0.win w).block.Idx → Elt F (cfg0.win w).elt) : Prop :=
  match w, X with
  | ⟨0, _⟩, _ => True | ⟨1, _⟩, _ => True | ⟨2, _⟩, _ => True | ⟨3, _⟩, _ => True
  | ⟨4, _⟩, X => X = xCodesBlk (XV m c)
  | ⟨5, _⟩, X => X = xScaleBlk (XV m c)
  | ⟨6, _⟩, _ => True
  | ⟨7, _⟩, X => ∀ q : S160x384.Idx, (q 1).val < 8 * (t.val + 1) → X q = GS m c q

/-- The proof data with those windows held to their predicate. -/
def rdat (c : Dev nD) : RDat τ (Elt F) Unit ℕ (UR sig nD τ) ℕ cfg0 c := (dat m c).toRRel fgt (Rl m c)

/-- Before a step the input's buffer holds the input. -/
theorem before_0 (c : Dev nD) (t : Fin cfg0.N) (d) : (dat m c).before 0 t d = iblk m c 0 t := before0_0_of m (dat m c) rfl (fun _ => rfl) t d
/-- Before a step the weight's buffer holds its block. -/
theorem before_1 (c : Dev nD) (t : Fin cfg0.N) (d) : (dat m c).before 1 t d = WV m c t := before0_1_of m (dat m c) rfl (fun _ => rfl) t d
/-- Before a step the weight scales' buffer holds its block. -/
theorem before_2 (c : Dev nD) (t : Fin cfg0.N) (d) : (dat m c).before 2 t d = WS m c t := before0_2_of m (dat m c) rfl (fun _ => rfl) t d

/-- The input is quantised in the first step alone. -/
theorem cond1_iff : ∀ t : Fin grid0.N, k0_cond1 (grid0.coords t) = 1#1 ↔ t.val = 0 := by decide +kernel
/-- The grid coordinate of a step is its number. -/
theorem coords_val : ∀ t : Fin grid0.N, (grid0.coords t 0).val = t.val := by decide +kernel

/-- What point `t` finds in a window held to its predicate is what the point before left. -/
theorem finds_prev (c : Dev nD) (w : Fin cfg0.W) (hw : fgt w = true) (hfe : ∀ t, (cfg0.win w).fetch t = false)
    (hfl : ∀ t, (cfg0.win w).flush t = true ↔ t.val % 48 = 47) (t : Fin cfg0.N) (ht : t.val ≠ 0) (Y) (hY : (rdat m c).Finds w t Y) :
    Rl m c w ⟨t.val - 1, Nat.lt_of_le_of_lt (Nat.sub_le _ _) t.isLt⟩ Y := by
  have hN : t.val < 48 := Nat.lt_of_lt_of_eq t.isLt N_0
  rcases (RDat.finds_of_pos (rdat m c) (hfe t) ht Y).mp hY with h | h
  · have := (hfl _).mp h
    simp only at this
    omega
  · exact (dat m c).toRRel_leaves hw h

/-- The scales' buffer after point `t` has the columns done so far. -/
theorem newS_Rl (c : Dev nD) (t : Fin cfg0.N) (y : Vec F S160x384 .f32)
    (hy : ∀ q : S160x384.Idx, (q 1).val < 8 * t.val → y q = GS m c q) (q : S160x384.Idx) (hq : (q 1).val < 8 * (t.val + 1)) :
    newS (grid0.coords t) (XD m c) (WV m c t) (WS m c t) y q = GS m c q := by
  have hc := coords_val t
  by_cases h : (q 1).val < 8 * t.val
  · rw [newS_other _ _ _ _ _ _ (by rw [hc]; exact h)]; exact hy q h
  · have hp : ptOf (q 1) = t := Fin.ext (by show (q 1).val / 8 = t.val; omega)
    refine (newS_own (grid0.coords t) (XD m c) (WV m c t) (WS m c t) y q ⟨(q 1).val % 8, by omega⟩ ?_).trans ?_
    · rw [hc]; show (q 1).val = 8 * t.val + (q 1).val % 8; omega
    · unfold GS; rw [hp]

/-- The body's table entry is the kernel's body on the point's staging buffers. -/
theorem prog_eq (t : Fin cfg0.N) : (defs₀ (F := F)) .tc cfg0.body (cfg0.bodyArgs t (cfg0.slots t)) = bodyAt0 t := rfl

/-- Results are never fetched: result 2. -/
theorem fetch_4 : ∀ t : Fin cfg0.N, (cfg0.win 4).fetch t = false := fun t => (cfg0.win 4).fetch_out rfl t
/-- Results are never fetched: result 3. -/
theorem fetch_5 : ∀ t : Fin cfg0.N, (cfg0.win 5).fetch t = false := fun t => (cfg0.win 5).fetch_out rfl t
/-- Results are never fetched: result 5. -/
theorem fetch_7 : ∀ t : Fin cfg0.N, (cfg0.win 7).fetch t = false := fun t => (cfg0.win 7).fetch_out rfl t

/-- What point `t`'s body is given. -/
def bodyPre (c : Dev nD) (t : Fin cfg0.N) : sProp 𝕄 :=
  iprop(PhiS m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ d, owns (c : Thread nD τ) (st0_6 t) fullShare ((dat m c).before 6 t d))
    ∗ (∃ Y, ⌜(rdat m c).Finds 7 t Y⌝ ∗ owns (c : Thread nD τ) (st0_7 t) fullShare Y))

/-- What it leaves. -/
def bodyPost (c : Dev nD) (t : Fin cfg0.N) : sProp 𝕄 :=
  iprop(PhiS m c (t.val + 1) ∗ (dat m c).owesAt () t.succ
    ∗ owns (c : Thread nD τ) (st0_0 t) fullShare (iblk m c 0 t)
    ∗ owns (c : Thread nD τ) (st0_1 t) fullShare (WV m c t)
    ∗ owns (c : Thread nD τ) (st0_2 t) fullShare (WS m c t)
    ∗ owns (c : Thread nD τ) (st0_3 t) fullShare (actBlk (XD m c) (WV m c t) (WS m c t))
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ owns (c : Thread nD τ) (st0_6 t) fullShare (aCodesBlk (XD m c) (WV m c t) (WS m c t))
    ∗ (∃ X, ⌜Rl m c 7 t X⌝ ∗ owns (c : Thread nD τ) (st0_7 t) fullShare X))

/-- What the body owes does not change from step to step. -/
theorem owesAt_succ (c : Dev nD) (t : Fin cfg0.N) : ((dat m c).owesAt () t.castSucc : sProp 𝕄) = (dat m c).owesAt () t.succ := rfl

/-- A later point. -/
theorem body_rest (c : Dev nD) (t : Fin cfg0.N) (ht : t.val ≠ 0) :
    bodyPre m c t ⊢ wp frame (wpE (defs₀ (F := F)) Variants.none c none) Set.univ (bodyAt0 t) (fun _ => bodyPost m c t) := by
  unfold bodyPre bodyPost
  obtain ⟨n, hn⟩ : ∃ n, t.val = n + 1 := ⟨t.val - 1, by omega⟩
  rw [hn]
  unfold PhiS
  iintro ⟨⟨HS, HP⟩, HO, ⟨%d0, H0⟩, ⟨%d1, H1⟩, ⟨%d2, H2⟩, ⟨%d3, H3⟩, ⟨%Y4, %h4, H4⟩, ⟨%Y5, %h5, H5⟩, ⟨%d6, H6⟩, ⟨%Y7, %h7, H7⟩⟩
  rw [before_0, before_1, before_2]
  have r4 := finds_prev m c 4 rfl fetch_4 flush0_4 t ht Y4 h4
  have r5 := finds_prev m c 5 rfl fetch_5 flush0_5 t ht Y5 h5
  have r7 := finds_prev m c 7 rfl fetch_7 flush0_7 t ht Y7 h7
  iapply (sound_rest c Set.univ (grid0.coords t) (fun h => ht ((cond1_iff t).mp h)) _ _ _ _ _ _ _ _ _ _ _ _ _ _ _ _ _ _ (WV m c t) (WS m c t) Y7 (XD m c) _)
  isplitl [H1]; · iexact H1
  isplitl [H2]; · iexact H2
  isplitl [H3]; · iexists _; iexact H3
  isplitl [H6]; · iexists _; iexact H6
  isplitl [H7]; · iexact H7
  isplitl [HS]; · iexact HS
  iintro ⟨H1, H2, H3, H6, H7, HS⟩
  isplitl [HS HP]
  · isplitl [HS]; · iexact HS
    iexact HP
  isplitl [HO]; · iexact HO
  isplitl [H0]; · iexact H0
  isplitl [H1]; · iexact H1
  isplitl [H2]; · iexact H2
  isplitl [H3]; · iexact H3
  isplitl [H4]
  · iexists Y4; isplitr; · ipureintro; exact r4
    iexact H4
  isplitl [H5]
  · iexists Y5; isplitr; · ipureintro; exact r5
    iexact H5
  isplitl [H6]; · iexact H6
  iexists _; isplitr
  · ipureintro
    refine newS_Rl m c t Y7 fun q hq => r7 q ?_
    show (q 1).val < 8 * (t.val - 1 + 1); omega
  iexact H7

/-- The first point. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost
  have hT : t = T0 := Fin.ext ht
  rw [ht]
  unfold PhiS ΦA
  rw [scopedRest0_eq]
  iintro ⟨⟨⟨%fs, HS⟩, HP⟩, HO, ⟨%d0, H0⟩, ⟨%d1, H1⟩, ⟨%d2, H2⟩, ⟨%d3, H3⟩, ⟨%Y4, %h4, H4⟩, ⟨%Y5, %h5, H5⟩, ⟨%d6, H6⟩, ⟨%Y7, %h7, H7⟩⟩
  rw [before_0, before_1, before_2]
  iapply (sound_first c Set.univ (grid0.coords t) ((cond1_iff t).mpr ht) _ _ _ _ _ _ _ _ _ _ _ _ _ _ _ _ _ _ (iblk m c 0 t) (WV m c t) (WS m c t) Y7 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [HS]; · iexists fs; rw [owns_whole]; iexact HS
  iintro ⟨H0, H1, H2, H3, H4, H5, H6, H7, HS⟩
  rw [show xDeqBlk (iblk m c 0 t) = XD m c by rw [hT]; rfl]
  isplitl [HS HP]
  · isplitl [HS]; · iexact HS
    iexact HP
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; rw [hT]; exact (rfl : xCodesBlk (iblk m c 0 T0) = xCodesBlk (XV m c))
  isplitl [H5]
  · iexists _; isplitr; swap; · iexact H5
    ipureintro; rw [hT]; exact (rfl : xScaleBlk (iblk m c 0 T0) = xScaleBlk (XV m c))
  isplitl [H6]; · iexact H6
  iexists _; isplitr; swap; · iexact H7
  ipureintro
  exact newS_Rl m c t Y7 fun q hq => by omega

/-- The body obligation. -/
theorem body_obligation (c : Dev nD) : Pipeline.BodyObligationRel (dat m c) (defs₀ (F := F)) Variants.none () Set.univ fgt (Rl m c) := fun t => by
  rw [bigSep_W0, bigSep_W0]
  show bodyPre m c t ⊢ wp frame (wpE (defs₀ (F := F)) Variants.none c none) Set.univ (bodyAt0 t) (fun _ => bodyPost m c t)
  by_cases ht : t.val = 0
  · exact body_first m c t ht
  · exact body_rest m c t ht

/-- What the region starts with. -/
theorem hin (c : Dev nD) : ΦA spec0 c ⊢ ((dat m c).Φ 0 : sProp 𝕄) := .rfl

/-- What the region ends with. -/
theorem hout (c : Dev nD) : ((dat m c).Φ (Fin.last cfg0.N) : sProp 𝕄) ⊢ ΦA spec0 c := by
  show PhiS m c cfg0.N ⊢ _
  rw [show cfg0.N = 47 + 1 from N_0]
  unfold PhiS ΦA
  rw [scopedRest0_eq]
  iintro ⟨HS, HP⟩
  isplitl [HS]
  · iexists (XD m c); rw [← owns_whole]; iexact HS
  · iexact HP

/-- What a final state holds: each array something the proof data allow, everything else what it held; and no semaphore is up. -/
def Post (r : PUnit × MemSt nD τ sig (Elt F)) : Prop :=
  RDat.FramePost cfg0 (fun c => rdat m c) (V m) r ∧ r.2.sem = fun _ => 0

/-- The run. -/
theorem run : θ_run defs (onTc (τ := τ) (main (F := F))) (s₀ m ρ) (Post m) :=
  Pipeline.RDat.θ_run_frame_track cfgs 0 launch0 defs₀ Variants.none (fun c => rdat m c) m ρ main
    (fun c => (body_obligation m c).toRRel) (fun c w => (dat m c).share_full (fun _ => rfl) w) (fun _ _ => rfl) (V m) (hmain m Variants.none)
    (fun _ _ => rfl) (hin m) (hout m) (Post m) (fun _ h => h)

end Cert.Kernel.Run

end
-- ==== Proof.KOut.lean ====
module

public import proofs.«01_k».proof.Proof.KRun
public import Idealize.ShloMosaic.Lib.Pipeline.ValueKit
public import Idealize.ShloMosaic.Lib.Claim

@[expose] public section

set_option maxRecDepth 16384

noncomputable section

/-! What the run leaves: the arguments as they were, and each result in terms of the arguments. -/

namespace Cert.Kernel.Run

open Cert.Kernel Cert.Kernel.Gen Cert.Kernel.Step Cert.Kernel.Body
open Idealize.ShloMosaic Idealize.ShloMosaic.TcCoe Idealize.ShloMosaic.Tactic
open Idealize.SL Idealize.SL.RA Idealize.SL.BI Idealize.SL.Sem
open Idealize.ShloMosaic.Pipeline (Dat RDat Cfg Window ΦA)

variable {F : FTy → Type} [FloatOps F]

variable (m : (ℓ : Loc nD τ sig) → Buf (Elt F) ℓ) (ρ : Dev nD → PrngReg)

/-- The arguments end as they were. -/
theorem Post.args {m : (ℓ : Loc nD τ sig) → Buf (Elt F) ℓ} {r : PUnit × MemSt nD τ sig (Elt F)} (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h.1 c).2 main_arg0 (Pipeline.mem_restRefs_of main_arg0 (by decide) (by decide))).trans (V_main_arg0 m c),
    (RDat.FramePost.arr_in h.1 c 1 rfl).trans (V_main_arg1 m c),
    (RDat.FramePost.arr_in h.1 c 2 rfl).trans (V_main_arg2 m c)⟩

/-- The kernel ends, its arguments unchanged and no semaphore up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => Post.args h c, h.2⟩) (run m ρ)

/-- The point that writes column `n` of the activation. -/
def ptOfCol (n : Fin 49152) : Fin cfg0.N := ⟨n.val / 1024, by rw [show cfg0.N = 48 from N_0]; omega⟩

/-- Row `r`, column `n` of a 160 by 1024 buffer. -/
def at1024 (r : Fin 160) (n : Fin 1024) : S160x1024.Idx := fun a => match a with | ⟨0, _⟩ => r | ⟨1, _⟩ => n

/-- The whole activation, and its codes. -/
def GA (c : Dev nD) : Vec F S160x49152 .bf16 := fun q =>
  actBlk (XD m c) (WV m c (ptOfCol (q 1))) (WS m c (ptOfCol (q 1))) (at1024 (q 0) ⟨(q 1).val % 1024, by omega⟩)
/-- The activation's codes after the run. -/
def GC (c : Dev nD) : Vec F S160x49152 .fp8e4m3 := fun q =>
  aCodesBlk (XD m c) (WV m c (ptOfCol (q 1))) (WS m c (ptOfCol (q 1))) (at1024 (q 0) ⟨(q 1).val % 1024, by omega⟩)

/-- The block of result 1 that a step writes. -/
theorem index_3 : ∀ t : Fin cfg0.N, (cfg0.win 3).index t = ![0, t.val] := by decide +kernel
/-- The block of result 4 that a step writes. -/
theorem index_6 : ∀ t : Fin cfg0.N, (cfg0.win 6).index t = ![0, t.val] := by decide +kernel

/-- Result 1 after the run. -/
theorem arr_3 (c : Dev nD) : (dat m c).arrAt 3 cfg0.N = GA m c := by
  refine (dat m c).arrAt_eq_of_covers 3 _ (by decide +kernel) fun t hf y => ?_
  have h1 := (cfg0.win 3).rect_emb_val t y 1
  have h0 := (cfg0.win 3).rect_emb_val t y 0
  rw [index_3] at h0 h1
  have hy1 : (y 1).val < 1024 := (y 1).isLt
  have ht : t.val < 48 := Nat.lt_of_lt_of_eq t.isLt N_0
  show actBlk (XD m c) (WV m c t) (WS m c t) y = GA m c (((cfg0.win 3).rect t).emb y)
  unfold GA
  have e1 : ptOfCol ((((cfg0.win 3).rect t).emb y) 1) = t := Fin.ext (by
    show (((cfg0.win 3).rect t).emb y 1 : Nat) / 1024 = t.val
    rw [h1]; show (t.val * 1024 + (y 1).val) / 1024 = t.val; omega)
  rw [e1]
  congr 1
  funext a
  match a with
  | ⟨0, _⟩ => exact Fin.ext (by
      show (y 0).val = (((cfg0.win 3).rect t).emb y 0 : Nat)
      rw [h0]; show (y 0).val = 0 * 160 + (y 0).val; omega)
  | ⟨1, _⟩ => exact Fin.ext (by
      show (y 1).val = (((cfg0.win 3).rect t).emb y 1 : Nat) % 1024
      rw [h1]; show (y 1).val = (t.val * 1024 + (y 1).val) % 1024; omega)

/-- Result 4 after the run. -/
theorem arr_6 (c : Dev nD) : (dat m c).arrAt 6 cfg0.N = GC m c := by
  refine (dat m c).arrAt_eq_of_covers 6 _ (by decide +kernel) fun t hf y => ?_
  have h1 := (cfg0.win 6).rect_emb_val t y 1
  have h0 := (cfg0.win 6).rect_emb_val t y 0
  rw [index_6] at h0 h1
  have hy1 : (y 1).val < 1024 := (y 1).isLt
  have ht : t.val < 48 := Nat.lt_of_lt_of_eq t.isLt N_0
  show aCodesBlk (XD m c) (WV m c t) (WS m c t) y = GC m c (((cfg0.win 6).rect t).emb y)
  unfold GC
  have e1 : ptOfCol ((((cfg0.win 6).rect t).emb y) 1) = t := Fin.ext (by
    show (((cfg0.win 6).rect t).emb y 1 : Nat) / 1024 = t.val
    rw [h1]; show (t.val * 1024 + (y 1).val) / 1024 = t.val; omega)
  rw [e1]
  congr 1
  funext a
  match a with
  | ⟨0, _⟩ => exact Fin.ext (by
      show (y 0).val = (((cfg0.win 6).rect t).emb y 0 : Nat)
      rw [h0]; show (y 0).val = 0 * 160 + (y 0).val; omega)
  | ⟨1, _⟩ => exact Fin.ext (by
      show (y 1).val = (((cfg0.win 6).rect t).emb y 1 : Nat) % 1024
      rw [h1]; show (y 1).val = (t.val * 1024 + (y 1).val) % 1024; omega)

/-- The last point. -/
def T47 : Fin cfg0.N := ⟨47, by decide⟩

/-- What a window not held to a predicate may hold at the end is what the exact data name. -/
theorem arrAt_exact (c : Dev nD) (w : Fin cfg0.W) (hw : fgt w = false) (G) (h : (rdat m c).ArrAt w cfg0.N G) : G = (dat m c).arrAt w cfg0.N :=
  ((dat m c).toR_arrAt_iff w _ _).mp (((dat m c).toR.override_arrAt (by simp only [hw]) _ _).mp h)

/-- Result 2 after the run. -/
theorem whole_4 (c : Dev nD) (G : Vec F S160x1024 .fp8e4m3) (h : (rdat m c).ArrAt 4 cfg0.N G) : G = xCodesBlk (XV m c) := by
  obtain ⟨X, hX, hG⟩ := RDat.ArrAt.emb_eq_of_wholeAt (rd := rdat m c) h (t₀ := T47) (by decide +kernel)
  have hR : X = xCodesBlk (XV m c) := (dat m c).toRRel_leaves (fgt := fgt) (Rl := Rl m c) rfl hX
  subst hR
  exact funext fun j => hG j

/-- Result 3 after the run. -/
theorem whole_5 (c : Dev nD) (G : Vec F S160x8 .f32) (h : (rdat m c).ArrAt 5 cfg0.N G) : G = xScaleBlk (XV m c) := by
  obtain ⟨X, hX, hG⟩ := RDat.ArrAt.emb_eq_of_wholeAt (rd := rdat m c) h (t₀ := T47) (by decide +kernel)
  have hR : X = xScaleBlk (XV m c) := (dat m c).toRRel_leaves (fgt := fgt) (Rl := Rl m c) rfl hX
  subst hR
  exact funext fun j => hG j

/-- Result 5 after the run. -/
theorem whole_7 (c : Dev nD) (G : Vec F S160x384 .f32) (h : (rdat m c).ArrAt 7 cfg0.N G) : G = GS m c := by
  obtain ⟨X, hX, hG⟩ := RDat.ArrAt.emb_eq_of_wholeAt (rd := rdat m c) h (t₀ := T47) (by decide +kernel)
  have hR : ∀ q : S160x384.Idx, (q 1).val < 8 * (47 + 1) → X q = GS m c q := (dat m c).toRRel_leaves (fgt := fgt) (Rl := Rl m c) rfl hX
  exact funext fun j => (hG j).trans (hR j (Nat.lt_of_lt_of_le (j 1).isLt (by decide)))

/-- An array at the end is something the proof data allow. -/
theorem arr_of {cfg₁ : Cfg sig Λ₀} {U' : Type} [URA U'] {rd : (c : Dev nD) → RDat τ (Elt F) Unit ℕ U' ℕ cfg₁ c}
    {V : (c : Dev nD) → (b : Ref sig .tc) → Buf (Elt F) ((c.tc : Thread nD τ).loc b)} {r : PUnit × MemSt nD τ sig (Elt F)}
    (h : RDat.FramePost cfg₁ rd V r) (c : Dev nD) (w : Fin cfg₁.W) :
    (rd c).ArrAt w cfg₁.N (r.2.mem ((cfg₁.spec w).arr.view.loc (c.tc : Thread nD τ))) := (h c).1 w

/-- The results at the end. -/
theorem Post.results {m : (ℓ : Loc nD τ sig) → Buf (Elt F) ℓ} {r : PUnit × MemSt nD τ sig (Elt F)} (h : Post m r) (c : Dev nD) :
    r.2.mem ((c.tc : Thread nD τ).loc main_v1_0) = GA m c
    ∧ r.2.mem ((c.tc : Thread nD τ).loc main_v1_1) = xCodesBlk (XV m c)
    ∧ r.2.mem ((c.tc : Thread nD τ).loc main_v1_2) = xScaleBlk (XV m c)
    ∧ r.2.mem ((c.tc : Thread nD τ).loc main_v1_3) = GC m c
    ∧ r.2.mem ((c.tc : Thread nD τ).loc main_v1_4) = GS m c :=
  ⟨(arrAt_exact m c 3 rfl _ (arr_of h.1 c 3)).trans (arr_3 m c),
    whole_4 m c _ (arr_of h.1 c 4),
    whole_5 m c _ (arr_of h.1 c 5),
    (arrAt_exact m c 6 rfl _ (arr_of h.1 c 6)).trans (arr_6 m c),
    whole_7 m c _ (arr_of h.1 c 7)⟩

/-- The weight block that a step reads. -/
theorem index_1 : ∀ t : Fin cfg0.N, (cfg0.win 1).index t = ![0, t.val, 0] := by decide +kernel
/-- The weight scales that a step reads. -/
theorem index_2 : ∀ t : Fin cfg0.N, (cfg0.win 2).index t = ![0, t.val, 0] := by decide +kernel
/-- The input block that a step reads. -/
theorem index_0 : ∀ t : Fin cfg0.N, (cfg0.win 0).index t = ![0, 0] := by decide +kernel

/-- An index of the weights. -/
def ixW (h : Fin 2) (n : Fin 49152) (k : Fin 1024) : S2x49152x1024.Idx := fun a => match a with | ⟨0, _⟩ => h | ⟨1, _⟩ => n | ⟨2, _⟩ => k
/-- An index of the weights' scales. -/
def ixWS (h : Fin 2) (n : Fin 384) (k : Fin 8) : S2x384x8.Idx := fun a => match a with | ⟨0, _⟩ => h | ⟨1, _⟩ => n | ⟨2, _⟩ => k

/-- The input, as a matrix. -/
def flatX (x : Vec F S160x1x1024 .bf16) : Vec F S160x1024 .bf16 := shapeCast S160x1024 x (by decide)

/-- The input block is the flattened input. -/
theorem XV_eq (c : Dev nD) : XV m c = flatX (m ((c.tc : Thread nD τ).loc main_arg0)) := by
  have hV : V m c main_v0 = flatX (m ((c.tc : Thread nD τ).loc main_arg0)) := by
    entry_read
    rfl
  refine funext (fun (y : S160x1024.Idx) => ?_)
  have h1 := (cfg0.win 0).rect_emb_val T0 y 1
  have h0 := (cfg0.win 0).rect_emb_val T0 y 0
  rw [index_0] at h0 h1
  show V m c main_v0 (((cfg0.win 0).rect T0).emb y) = _
  rw [hV]
  congr 1
  funext a
  match a with
  | ⟨0, _⟩ => exact Fin.ext (by refine h0.trans ?_; show 0 * 160 + (y 0).val = (y 0).val; omega)
  | ⟨1, _⟩ => exact Fin.ext (by refine h1.trans ?_; show 0 * 1024 + (y 1).val = (y 1).val; omega)

/-- A point's weights. -/
theorem WV_eq (c : Dev nD) (t : Fin cfg0.N) (y : S2x1024x1024.Idx) :
    WV m c t y = m ((c.tc : Thread nD τ).loc main_arg1) (ixW (y 0) ⟨1024 * t.val + (y 1).val, by
      have h : (y 1).val < 1024 := (y 1).isLt
      have := Nat.lt_of_lt_of_eq t.isLt N_0; omega⟩ (y 2)) := by
  have h2 := (cfg0.win 1).rect_emb_val t y 2
  have h1 := (cfg0.win 1).rect_emb_val t y 1
  have h0 := (cfg0.win 1).rect_emb_val t y 0
  rw [index_1] at h0 h1 h2
  show V m c main_arg1 (((cfg0.win 1).rect t).emb y) = _
  rw [V_main_arg1]
  congr 1
  funext a
  match a with
  | ⟨0, _⟩ => exact Fin.ext (by refine h0.trans ?_; show 0 * 2 + (y 0).val = (y 0).val; omega)
  | ⟨1, _⟩ => exact Fin.ext (by refine h1.trans ?_; show t.val * 1024 + (y 1).val = 1024 * t.val + (y 1).val; omega)
  | ⟨2, _⟩ => exact Fin.ext (by refine h2.trans ?_; show 0 * 1024 + (y 2).val = (y 2).val; omega)

/-- A point's scales of the weights. -/
theorem WS_eq (c : Dev nD) (t : Fin cfg0.N) (y : S2x8x8.Idx) :
    WS m c t y = m ((c.tc : Thread nD τ).loc main_arg2) (ixWS (y 0) ⟨8 * t.val + (y 1).val, by
      have h : (y 1).val < 8 := (y 1).isLt
      have := Nat.lt_of_lt_of_eq t.isLt N_0; omega⟩ (y 2)) := by
  have h2 := (cfg0.win 2).rect_emb_val t y 2
  have h1 := (cfg0.win 2).rect_emb_val t y 1
  have h0 := (cfg0.win 2).rect_emb_val t y 0
  rw [index_2] at h0 h1 h2
  show V m c main_arg2 (((cfg0.win 2).rect t).emb y) = _
  rw [V_main_arg2]
  congr 1
  funext a
  match a with
  | ⟨0, _⟩ => exact Fin.ext (by refine h0.trans ?_; show 0 * 2 + (y 0).val = (y 0).val; omega)
  | ⟨1, _⟩ => exact Fin.ext (by refine h1.trans ?_; show t.val * 8 + (y 1).val = 8 * t.val + (y 1).val; omega)
  | ⟨2, _⟩ => exact Fin.ext (by refine h2.trans ?_; show 0 * 8 + (y 2).val = (y 2).val; omega)

end Cert.Kernel.Run

end
-- ==== Proof.Same.lean ====
module

public import proofs.«01_k».proof.Defs
public import proofs.«01_k».proof.Proof.Gen.KernelIdeal
public import proofs.«01_k».proof.Proof.KOut

@[expose] public section

set_option maxRecDepth 16384

noncomputable section

/-! The idealised kernel is the kernel's own program at the ideal values: what was proved of the kernel at any float values
holds of it. -/

namespace Cert.Same

open Idealize.ShloMosaic Idealize.ShloMosaic.TcCoe Idealize.SL.Sem

/-- The facts the kernel's program rests on. -/
local instance factsK : Kernel.Facts := Kernel.Gen.facts
/-- The facts the idealised kernel's program rests on. -/
local instance factsI : KernelIdeal.Facts := KernelIdeal.Gen.facts

/-- The two programs have the same bodies. -/
theorem defs₀_eq : KernelIdeal.defs₀ (F := Ideal) = Kernel.defs₀ (F := Ideal) := by
  refine congrArg Defs.onTc (funext fun l => funext fun x => ?_)
  match l, x with
  | 0, (t, s) => rfl

/-- The two programs have the same bodies and pipelines. -/
theorem defs_eq : KernelIdeal.defs (F := Ideal) = Kernel.defs (F := Ideal) :=
  congrArg (Pipeline.defs (Kernel.pcfgs (F := Ideal))) defs₀_eq

/-- The two programs have the same entry. -/
theorem main_eq : KernelIdeal.main (F := Ideal) = Kernel.main (F := Ideal) := rfl

/-- What holds of the kernel's run at the ideal values holds of the idealised kernel's. -/
theorem θ_run_of (s : MemSt Kernel.nD Kernel.τ Kernel.sig (Elt Ideal)) (Q : PUnit × MemSt Kernel.nD Kernel.τ Kernel.sig (Elt Ideal) → Prop)
    (h : θ_run (Kernel.defs (F := Ideal)) (onTc (τ := Kernel.τ) (Kernel.main (F := Ideal))) s Q) :
    θ_run (KernelIdeal.defs (F := Ideal)) (onTc (τ := KernelIdeal.τ) (KernelIdeal.main (F := Ideal))) s Q := by
  rw [defs_eq]
  exact h

end Cert.Same

end
-- ==== Proof.RVal.lean ====
module

public import proofs.«01_k».proof.Proof.Gen.ReferenceIdeal.Frame
public import Idealize.ShloMosaic.Lib.Pipeline.Value
public import Idealize.ShloMosaic.Lib.Pipeline.ValueKit.Geometry

@[expose] public section

noncomputable section

/-! What the reference leaves in its five result arrays, each as one function of the argument arrays. The reference has one
grid point and every block is a whole array, so the array after the run is the body's result. -/

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Every window's block is its array -/

/-- Every window's block index at the one point is zero on every axis. -/
theorem index_zero : ∀ (w : Fin 8) (t : Fin cfg0.N) (a : Fin (cfg0.win w).shape.rank), (cfg0.win w).index t a = 0 :=
  (by decide +kernel : ∀ (w : Fin 8) (t : Fin grid0.N) (a : Fin (cfg0.win w).shape.rank), (cfg0.win w).index t a = 0)

/-- A coordinate in a block at block index zero is the coordinate in the array. -/
theorem coord {i s j : ℕ} (h : i = 0) : i * s + 1 * j = j := by subst h; omega

/-- An index of window 0's block is the same index of its array. -/
theorem emb0 (t : Fin cfg0.N) (j : S160x1x1024.Idx) : ((cfg0.win 0).blk t).view.emb j = j :=
  funext fun a => Fin.ext (coord (index_zero 0 t a))

/-- An index of window 1's block is the same index of its array. -/
theorem emb1 (t : Fin cfg0.N) (j : S2x49152x1024.Idx) : ((cfg0.win 1).blk t).view.emb j = j :=
  funext fun a => Fin.ext (coord (index_zero 1 t a))

/-- An index of window 2's block is the same index of its array. -/
theorem emb2 (t : Fin cfg0.N) (j : S2x384x8.Idx) : ((cfg0.win 2).blk t).view.emb j = j :=
  funext fun a => Fin.ext (coord (index_zero 2 t a))

/-- An index of window 3's block is the same index of its array. -/
theorem emb3 (t : Fin cfg0.N) (j : S160x49152.Idx) : ((cfg0.win 3).blk t).view.emb j = j :=
  funext fun a => Fin.ext (coord (index_zero 3 t a))

/-- An index of window 4's block is the same index of its array. -/
theorem emb4 (t : Fin cfg0.N) (j : S160x1024.Idx) : ((cfg0.win 4).blk t).view.emb j = j :=
  funext fun a => Fin.ext (coord (index_zero 4 t a))

/-- An index of window 5's block is the same index of its array. -/
theorem emb5 (t : Fin cfg0.N) (j : S160x8.Idx) : ((cfg0.win 5).blk t).view.emb j = j :=
  funext fun a => Fin.ext (coord (index_zero 5 t a))

/-- An index of window 6's block is the same index of its array. -/
theorem emb6 (t : Fin cfg0.N) (j : S160x49152.Idx) : ((cfg0.win 6).blk t).view.emb j = j :=
  funext fun a => Fin.ext (coord (index_zero 6 t a))

/-- An index of window 7's block is the same index of its array. -/
theorem emb7 (t : Fin cfg0.N) (j : S160x384.Idx) : ((cfg0.win 7).blk t).view.emb j = j :=
  funext fun a => Fin.ext (coord (index_zero 7 t a))

/-- Argument 0's block at the point is the argument. -/
theorem iblk0_eq (c : Dev nD) (t : Fin cfg0.N) : iblk m c 0 t = V m c main_arg0 :=
  funext fun j => congrArg (V m c main_arg0) (emb0 t j)

/-- Argument 1's block at the point is the argument. -/
theorem iblk1_eq (c : Dev nD) (t : Fin cfg0.N) : iblk m c 1 t = V m c main_arg1 :=
  funext fun j => congrArg (V m c main_arg1) (emb1 t j)

/-- Argument 2's block at the point is the argument. -/
theorem iblk2_eq (c : Dev nD) (t : Fin cfg0.N) : iblk m c 2 t = V m c main_arg2 :=
  funext fun j => congrArg (V m c main_arg2) (emb2 t j)

/-- The zero offsets of rank 3. -/
theorem hz0 : (![0, 0, 0] : Fin 3 → Nat) = fun _ => 0 := funext fun a => by fin_cases a <;> rfl

/-- The zero offsets of rank 2. -/
theorem hz3 : (![0, 0] : Fin 2 → Nat) = fun _ => 0 := funext fun a => by fin_cases a <;> rfl

/-! ## The five result arrays -/

/-- Result 1, the activation, as a function of the arguments. -/
abbrev G3 (a0 : Vec F S160x1x1024 .bf16) (a1 : Vec F S2x49152x1024 .fp8e4m3) (a2 : Vec F S2x384x8 .f32) : Vec F S160x49152 .bf16 :=
  k0_pay1 (k0_pay11 (k0_pay21 a0 a1 a2) (k0_pay22 a0 a1 a2) (k0_pay23 a0 a1 a2) (k0_pay24 a0 a1 a2) (k0_pay25 a0 a1 a2) (Scalar.ofBits .f32 0x7F000000#32) a1 a2)

/-- The one store of the whole result leaves it. -/
theorem out3_eq (a0 : Vec F S160x1x1024 .bf16) (a1 : Vec F S2x49152x1024 .fp8e4m3) (a2 : Vec F S2x384x8 .f32) : out0_3 (F := F) a0 a1 a2 = G3 a0 a1 a2 := by
  unfold out0_3
  rw [View.canon_unit_zero hz3, View.ld_unit_zero (S := S2x49152x1024) hz0 _ a1, View.ld_unit_zero (S := S2x384x8) hz0 _ a2]

/-- Result 1 after the run. -/
theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  show (dats m 0 c).after 3 t y = G3 _ _ _ (((cfg0.win 3).blk t).view.emb y)
  rw [emb3, after0_3, out3_eq, iblk0_eq, iblk1_eq, iblk2_eq]

/-- Result 2, the input's codes, as a function of the arguments. -/
abbrev G4 (a0 : Vec F S160x1x1024 .bf16) (a1 : Vec F S2x49152x1024 .fp8e4m3) (a2 : Vec F S2x384x8 .f32) : Vec F S160x1024 .fp8e4m3 :=
  k0_pay2 (k0_pay10 (k0_pay21 a0 a1 a2) (k0_pay22 a0 a1 a2) (k0_pay24 a0 a1 a2) (k0_pay25 a0 a1 a2) (Scalar.ofBits .f32 0x7F000000#32))

/-- The one store of the whole result leaves it. -/
theorem out4_eq (a0 : Vec F S160x1x1024 .bf16) (a1 : Vec F S2x49152x1024 .fp8e4m3) (a2 : Vec F S2x384x8 .f32) : out0_4 (F := F) a0 a1 a2 = G4 a0 a1 a2 := by
  unfold out0_4
  rw [View.canon_unit_zero hz3]

/-- Result 2 after the run. -/
theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  show (dats m 0 c).after 4 t y = G4 _ _ _ (((cfg0.win 4).blk t).view.emb y)
  rw [emb4, after0_4, out4_eq, iblk0_eq, iblk1_eq, iblk2_eq]

/-- Result 3, the input's scales, as a function of the arguments. -/
abbrev G5 (a0 : Vec F S160x1x1024 .bf16) (a1 : Vec F S2x49152x1024 .fp8e4m3) (a2 : Vec F S2x384x8 .f32) : Vec F S160x8 .f32 :=
  k0_pay23 a0 a1 a2

/-- The one store of the whole result leaves it. -/
theorem out5_eq (a0 : Vec F S160x1x1024 .bf16) (a1 : Vec F S2x49152x1024 .fp8e4m3) (a2 : Vec F S2x384x8 .f32) : out0_5 (F := F) a0 a1 a2 = G5 a0 a1 a2 := by
  unfold out0_5
  rw [View.canon_unit_zero hz3]

/-- Result 3 after the run. -/
theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  show (dats m 0 c).after 5 t y = G5 _ _ _ (((cfg0.win 5).blk t).view.emb y)
  rw [emb5, after0_5, out5_eq, iblk0_eq, iblk1_eq, iblk2_eq]

/-- Result 4, the activation's codes, as a function of the arguments. -/
abbrev G6 (a0 : Vec F S160x1x1024 .bf16) (a1 : Vec F S2x49152x1024 .fp8e4m3) (a2 : Vec F S2x384x8 .f32) : Vec F S160x49152 .fp8e4m3 :=
  k0_pay3 (k0_pay12 (k0_pay21 a0 a1 a2) (k0_pay22 a0 a1 a2) (k0_pay23 a0 a1 a2) (k0_pay24 a0 a1 a2) (k0_pay25 a0 a1 a2) (Scalar.ofBits .f32 0x7F000000#32) a1 a2) (k0_pay17 (k0_pay26 a0 a1 a2)) (k0_pay18 (k0_pay26 a0 a1 a2)) (k0_pay19 (k0_pay26 a0 a1 a2)) (k0_pay20 (k0_pay26 a0 a1 a2))

/-- The one store of the whole result leaves it. -/
theorem out6_eq (a0 : Vec F S160x1x1024 .bf16) (a1 : Vec F S2x49152x1024 .fp8e4m3) (a2 : Vec F S2x384x8 .f32) : out0_6 (F := F) a0 a1 a2 = G6 a0 a1 a2 := by
  unfold out0_6
  rw [View.canon_unit_zero hz3, View.ld_unit_zero (S := S2x49152x1024) hz0 _ a1, View.ld_unit_zero (S := S2x384x8) hz0 _ a2]

/-- Result 4 after the run. -/
theorem final6 (c : Dev nD) : (dats m 0 c).arrAt 6 cfg0.N = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  show (dats m 0 c).after 6 t y = G6 _ _ _ (((cfg0.win 6).blk t).view.emb y)
  rw [emb6, after0_6, out6_eq, iblk0_eq, iblk1_eq, iblk2_eq]

/-- Result 5, the activation's scales, as a function of the arguments. -/
abbrev G7 (a0 : Vec F S160x1x1024 .bf16) (a1 : Vec F S2x49152x1024 .fp8e4m3) (a2 : Vec F S2x384x8 .f32) : Vec F S160x384 .f32 :=
  k0_pay16 (k0_pay26 a0 a1 a2)

/-- The one store of the whole result leaves it. -/
theorem out7_eq (a0 : Vec F S160x1x1024 .bf16) (a1 : Vec F S2x49152x1024 .fp8e4m3) (a2 : Vec F S2x384x8 .f32) : out0_7 (F := F) a0 a1 a2 = G7 a0 a1 a2 := by
  unfold out0_7
  rw [View.canon_unit_zero hz3]

/-- Result 5 after the run. -/
theorem final7 (c : Dev nD) : (dats m 0 c).arrAt 7 cfg0.N = G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  show (dats m 0 c).after 7 t y = G7 _ _ _ (((cfg0.win 7).blk t).view.emb y)
  rw [emb7, after0_7, out7_eq, iblk0_eq, iblk1_eq, iblk2_eq]

/-! ## The run, read -/

/-- The run: each result array is its function of the arguments, and the arguments are unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).1 4).trans (final4 m c),
      ((h c).1 5).trans (final5 m c),
      ((h c).1 6).trans (final6 m c),
      ((h c).1 7).trans (final7 m c),
      kept_main_arg0 m r h c,
      kept_main_arg1 m r h c,
      kept_main_arg2 m r h c⟩)
    (run_main m ρ)

end Cert.ReferenceIdeal.Val

end
-- ==== Proof.VScal.lean ====
module

public import Idealize.ShloMosaic.PureOps.Ideal.Laws

@[expose] public section

set_option maxRecDepth 16384

noncomputable section

/-! The quantiser's scale of one group, at the ideal values: the kernel's reading of the exponent bits and the reference's
count of powers of two give the same scale and the same inverse scale, whatever the largest magnitude. -/

namespace Cert.Val

open Idealize.ShloMosaic

/-- What the bit pattern with exponent field `k` and no other bit set denotes. -/
def T (k : ℕ) : EReal := Ideal.ofBits .f32 (BitVec.ofNat 32 k <<< 23)

/-- The sign, exponent field and fraction of the pattern with exponent field `k` alone. -/
theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- Exponent field 0 denotes zero. -/
theorem T_zero : T 0 = 0 := by simp [T]

/-- A positive pattern with no fraction bits and exponent field `k`. -/
theorem ieee_pow (b : BitVec 32) (k : ℕ) (h1 : 1 ≤ k) (h2 : k ≤ 254) (f1 : (b.extractLsb' 31 1 == 1#1) = false)
    (f2 : (b.extractLsb' 23 8).toNat = k) (f3 : (b.extractLsb' 0 23).toNat = 0) :
    Ideal.ieee 8 23 b = (((2 : ℝ) ^ ((k : ℤ) - 127) : ℝ) : EReal) := by
  have e : (2 : ℝ) ^ (((k : ℤ) - (2 ^ (8 - 1) - 1) - (23 : ℕ))) = (2 : ℝ) ^ ((k : ℤ) - 127) * (2 : ℝ) ^ (-23 : ℤ) := by
    rw [← zpow_add₀ (by norm_num)]; congr 1
  unfold Ideal.ieee
  simp only [show 8 + 23 = 31 from rfl]
  rw [f2, f3, f1, if_neg (by norm_num; omega), if_neg (by omega), e]
  congr 1
  norm_num
  ring

/-- A positive pattern with no fraction bits and exponent field 255 denotes infinity. -/
theorem ieee_top (b : BitVec 32) (f1 : (b.extractLsb' 31 1 == 1#1) = false)
    (f2 : (b.extractLsb' 23 8).toNat = 255) (f3 : (b.extractLsb' 0 23).toNat = 0) : Ideal.ieee 8 23 b = ⊤ := by
  unfold Ideal.ieee
  simp only [show 8 + 23 = 31 from rfl]
  rw [f2, f3, f1]
  simp

/-- Exponent field 255 denotes infinity. -/
theorem T_top : T 255 = ⊤ := ieee_top _ (fields 255).1 (fields 255).2.1 (fields 255).2.2

/-- Exponent field `k` between 1 and 254 denotes `2^(k-127)`. -/
theorem T_mid (k : ℕ) (h1 : 1 ≤ k) (h2 : k ≤ 254) : T k = (((2 : ℝ) ^ ((k : ℤ) - 127) : ℝ) : EReal) :=
  ieee_pow _ k h1 h2 (fields ⟨k, by omega⟩).1 (fields ⟨k, by omega⟩).2.1 (fields ⟨k, by omega⟩).2.2

/-- A larger exponent field denotes a larger value. -/
theorem T_lt (i j : ℕ) (hij : i < j) (hj : j ≤ 255) : T i < T j := by
  rcases Nat.eq_zero_or_pos i with rfl | hi
  · rw [T_zero]
    rcases Nat.lt_or_ge j 255 with h | h
    · rw [T_mid j (by omega) (by omega)]
      exact_mod_cast zpow_pos (by norm_num : (0:ℝ) < 2) _
    · rw [show j = 255 by omega, T_top]; exact EReal.zero_lt_top
  · rw [T_mid i hi (by omega)]
    rcases Nat.lt_or_ge j 255 with h | h
    · rw [T_mid j (by omega) (by omega)]
      exact EReal.coe_lt_coe_iff.mpr (zpow_lt_zpow_right₀ (by norm_num : (1:ℝ) < 2) (by omega))
    · rw [show j = 255 by omega, T_top]; exact EReal.coe_lt_top _

/-- The values grow with the exponent field. -/
theorem T_le (i j : ℕ) (hij : i ≤ j) (hj : j ≤ 255) : T i ≤ T j := by
  rcases Nat.lt_or_ge i j with h | h
  · exact (T_lt i j h hj).le
  · rw [show i = j by omega]

/-- Every value has an exponent field: the number of the powers of two that are not above it. -/
theorem exists_field (p : EReal) : ∃ n ≤ 255, ∀ k, 1 ≤ k → k ≤ 255 → (T k ≤ p ↔ k ≤ n) := by
  classical
  refine ⟨Nat.findGreatest (fun k => k = 0 ∨ T k ≤ p) 255, Nat.findGreatest_le _, fun k h1 h2 => ⟨fun h => Nat.le_findGreatest h2 (Or.inr h), fun h => ?_⟩⟩
  have hs := Nat.findGreatest_spec (P := fun k => k = 0 ∨ T k ≤ p) (Nat.zero_le 255) (Or.inl rfl)
  rcases hs with hs | hs
  · omega
  · exact (T_le _ _ h (Nat.findGreatest_le _)).trans hs

/-! ## The kernel's reading -/

/-- The largest exponent field whose power of two is not above `p`. -/
def fieldOf (p : EReal) : BitVec 32 :=
  (Finset.univ : Finset (Fin 256)).fold IntOp.maxsi 2147483648#32 (fun k => if p < T k.val then 0#32 else BitVec.ofNat 32 k.val <<< 23)

/-- The signed maximum of two words, as integers. -/
theorem toInt_maxsi (x y : BitVec 32) : (IntOp.maxsi x y).toInt = max x.toInt y.toInt := by
  simp only [IntOp.maxsi, BitVec.slt, decide_eq_true_eq]
  split <;> omega

/-- The pattern with exponent field `k`, as an integer. -/
theorem toInt_field : ∀ k : Fin 256, (BitVec.ofNat 32 k.val <<< 23).toInt = k.val * 8388608 := by decide +kernel

/-- The largest exponent field not above `p` is the number of the powers of two not above it. -/
theorem fieldOf_eq (p : EReal) (n : ℕ) (hn : n ≤ 255) (h : ∀ k, 1 ≤ k → k ≤ 255 → (T k ≤ p ↔ k ≤ n)) :
    fieldOf p = BitVec.ofNat 32 n <<< 23 := by
  apply BitVec.eq_of_toInt_eq
  unfold fieldOf
  rw [← Finset.fold_hom (op' := max) (m := BitVec.toInt) toInt_maxsi]
  rw [toInt_field ⟨n, by omega⟩]
  apply le_antisymm
  · rw [Finset.fold_max_le]
    refine ⟨by simp; try omega, fun k _ => ?_⟩
    split
    · simp; try omega
    · rename_i hk
      rw [toInt_field k]
      have hk' : k.val ≤ n := by
        rcases Nat.eq_zero_or_pos k.val with h0 | h0
        · omega
        · exact (h k.val h0 (by omega)).mp (not_lt.mp hk)
      show ((k.val : ℤ)) * 8388608 ≤ (n : ℤ) * 8388608
      omega
  · rw [Finset.le_fold_max]
    right
    refine ⟨⟨n, by omega⟩, Finset.mem_univ _, ?_⟩
    rcases Nat.eq_zero_or_pos n with h0 | h0
    · subst h0
      simp
    · rw [if_neg (not_lt.mpr ((h n h0 hn).mpr le_rfl)), toInt_field ⟨n, by omega⟩]

/-- The field the scale is made of. -/
def kWord (p : EReal) : BitVec 32 := if fieldOf p = 0#32 then 1056964608#32 else fieldOf p
/-- The kernel's scale and inverse scale. -/
def kScale (p : EReal) : EReal := Ideal.ofBits .f32 (kWord p + 8388608#32)
/-- The kernel's inverse scale. -/
def kInv (p : EReal) : EReal := Ideal.ofBits .f32 (2122317824#32 - kWord p)

/-! ## The reference's count -/

/-- How many of the powers of two `2^-126`, `2^-125`, ... are not above `p`. -/
def count (p : EReal) : EReal := ∑ k : Fin 256, if Ideal.exp2 ((((BitVec.ofNat 32 k.val).toInt : ℝ) : EReal) - Ideal.ofBits .f32 0x42FC0000#32) ≤ p
  then Ideal.ofBits .f32 0x3F800000#32 else Ideal.ofBits .f32 0x00000000#32

/-- The exponent. -/
def rExp (p : EReal) : EReal :=
  if p < Ideal.ofBits .f32 0x00800000#32 then Ideal.ofBits .f32 0x00000000#32 else count p - Ideal.ofBits .f32 0x42FC0000#32
/-- The reference's scale and inverse scale. -/
def rScale (p : EReal) : EReal :=
  if p < Ideal.ofBits .f32 0x7F000000#32 then Ideal.exp2 (rExp p)
  else if p < Ideal.ofBits .f32 0x7F800000#32 then Ideal.ofBits .f32 0x7F800000#32 else Ideal.ofBits .f32 0x00000000#32
/-- The reference's inverse scale. -/
def rInv (p : EReal) : EReal :=
  if p < Ideal.ofBits .f32 0x7E800000#32 then Ideal.exp2 (Ideal.ofBits .f32 0x00000000#32 - rExp p)
  else if p < Ideal.ofBits .f32 0x7F000000#32 then Ideal.ofBits .f32 0x00000000#32
  else if p < Ideal.ofBits .f32 0x7F800000#32 then Ideal.ofBits .f32 0xFF800000#32 else Ideal.ofBits .f32 0xFF000000#32

/-- The constant `2^-126`. -/
theorem b1 : Ideal.ofBits .f32 0x00800000#32 = T 1 := by rfl
/-- The constant `2^126`. -/
theorem b253 : Ideal.ofBits .f32 0x7E800000#32 = T 253 := by rfl
/-- The constant `2^127`. -/
theorem b254 : Ideal.ofBits .f32 0x7F000000#32 = T 254 := by rfl
/-- The constant infinity. -/
theorem b255 : Ideal.ofBits .f32 0x7F800000#32 = T 255 := by rfl
/-- The constant 126. -/
theorem b126 : Ideal.ofBits .f32 0x42FC0000#32 = ((126 : ℝ) : EReal) := by
  simp [Ideal.ofBits, Ideal.ieee, -EReal.coe_mul]; norm_num
/-- The constant 1. -/
theorem bone : Ideal.ofBits .f32 0x3F800000#32 = 1 := by
  simp [Ideal.ofBits, Ideal.ieee, -EReal.coe_mul]; norm_num

/-- A small number read from its word. -/
theorem toInt_small : ∀ k : Fin 256, (BitVec.ofNat 32 k.val).toInt = k.val := by decide +kernel

/-- The reference's `k`-th power of two is `2^(k-126)`. -/
theorem threshold (k : ℕ) (hk : k < 256) :
    Ideal.exp2 ((((BitVec.ofNat 32 k).toInt : ℝ) : EReal) - Ideal.ofBits .f32 0x42FC0000#32) = (((2 : ℝ) ^ ((k : ℤ) - 126) : ℝ) : EReal) := by
  rw [b126, toInt_small ⟨k, hk⟩, ← EReal.coe_sub, Ideal.exp2_coe]
  congr 1
  have e : ((((k : ℕ) : ℤ) : ℝ) - 126) = (((k : ℤ) - 126 : ℤ) : ℝ) := by push_cast; ring
  show Real.rpow 2 ((((k : ℕ) : ℤ) : ℝ) - 126) = _
  rw [e]
  exact Real.rpow_intCast 2 _

/-- The reference's count, below `2^127`, is the exponent field. -/
theorem count_eq (p : EReal) (n : ℕ) (hn : n ≤ 253) (h : ∀ k, 1 ≤ k → k ≤ 255 → (T k ≤ p ↔ k ≤ n)) : count p = ((n : ℝ) : EReal) := by
  have key : ∀ k : Fin 256, (Ideal.exp2 ((((BitVec.ofNat 32 k.val).toInt : ℝ) : EReal) - Ideal.ofBits .f32 0x42FC0000#32) ≤ p) ↔ k.val < n := by
    intro k
    rw [threshold k.val k.isLt]
    rcases Nat.lt_or_ge k.val 254 with hk | hk
    · have := h (k.val + 1) (by omega) (by omega)
      rw [T_mid (k.val + 1) (by omega) (by omega)] at this
      rw [show (((k.val + 1 : ℕ) : ℤ) - 127) = (k.val : ℤ) - 126 by push_cast; ring] at this
      rw [this]; omega
    · constructor
      · intro hle
        exfalso
        have h254 := h 254 (by omega) (by omega)
        rw [T_mid 254 (by omega) (by omega)] at h254
        have : ((2 : ℝ) ^ ((254 : ℕ) - 127 : ℤ)) ≤ (2 : ℝ) ^ ((k.val : ℤ) - 126) :=
          zpow_le_zpow_right₀ (by norm_num) (by push_cast; omega)
        have := h254.mp (le_trans (by exact_mod_cast this) hle)
        omega
      · intro; omega
  unfold count
  rw [Finset.sum_congr rfl fun k _ => by rw [if_congr (key k) rfl rfl, bone, Ideal.ofBits_zero_f32]]
  rw [← Finset.sum_filter, Finset.sum_const, nsmul_one]
  have hc : (Finset.univ.filter fun k : Fin 256 => k.val < n).card = n := by
    rw [Fin.card_filter_val_lt]; omega
  rw [hc]
  simp

/-- The kernel's choice of the field 126 for the field 0, on words. -/
theorem word_add : ∀ n : Fin 256, (if BitVec.ofNat 32 n.val <<< 23 = 0#32 then 1056964608#32 else BitVec.ofNat 32 n.val <<< 23)
    = if n.val = 0 then BitVec.ofNat 32 126 <<< 23 else BitVec.ofNat 32 n.val <<< 23 := by decide +kernel
/-- Adding one to the exponent field, on words. -/
theorem word_scale : ∀ n : Fin 256, BitVec.ofNat 32 n.val <<< 23 + 8388608#32 = BitVec.ofNat 32 (n.val + 1) <<< 23 := by decide +kernel
/-- Taking the exponent field from 253, on words. -/
theorem word_inv : ∀ n : Fin 254, 2122317824#32 - BitVec.ofNat 32 n.val <<< 23 = BitVec.ofNat 32 (253 - n.val) <<< 23 := by decide +kernel

/-- The field the kernel makes the scale of, by the exponent field of `p`. -/
theorem kWord_eq (p : EReal) (n : ℕ) (hn : n ≤ 255) (h : ∀ k, 1 ≤ k → k ≤ 255 → (T k ≤ p ↔ k ≤ n)) :
    kWord p = if n = 0 then BitVec.ofNat 32 126 <<< 23 else BitVec.ofNat 32 n <<< 23 := by
  unfold kWord; rw [fieldOf_eq p n hn h]; exact word_add ⟨n, by omega⟩

/-- The exponent of a value below `2^127`, as a real number. -/
def ex (n : ℕ) : ℤ := if n = 0 then 0 else (n : ℤ) - 126

/-- The reference's exponent, by the exponent field of `p`. -/
theorem rExp_eq (p : EReal) (n : ℕ) (hn : n ≤ 253) (h : ∀ k, 1 ≤ k → k ≤ 255 → (T k ≤ p ↔ k ≤ n)) : rExp p = ((ex n : ℝ) : EReal) := by
  unfold rExp ex
  rw [b1, b126]
  have h1 := h 1 le_rfl (by omega)
  rcases Nat.eq_zero_or_pos n with h0 | h0
  · rw [if_pos (not_le.mp fun hh => by have := h1.mp hh; omega), if_pos h0, Ideal.ofBits_zero_f32]; simp
  · rw [if_neg (not_lt.mpr (h1.mpr h0)), if_neg (by omega), count_eq p n hn h, ← EReal.coe_sub]
    push_cast; rfl

/-- `exp2` at an integer. -/
theorem exp2_int (e : ℤ) : Ideal.exp2 ((e : ℝ) : EReal) = (((2 : ℝ) ^ e : ℝ) : EReal) := by
  rw [Ideal.exp2_coe]; congr 1; exact Real.rpow_intCast 2 e

/-- The two scales agree. -/
theorem scale_eq (p : EReal) : kScale p = rScale p := by
  obtain ⟨n, hn, h⟩ := exists_field p
  have hw := kWord_eq p n hn h
  unfold kScale rScale
  rw [b254, b255, hw, T_top, Ideal.ofBits_zero_f32]
  have h254 := h 254 (by omega) (by omega)
  have h255 := h 255 (by omega) le_rfl
  rw [T_top] at h255
  rcases Nat.lt_or_ge n 254 with hlt | hge
  · rw [if_pos (not_le.mp fun hh => by have := h254.mp hh; omega), rExp_eq p n (by omega) h, exp2_int]
    have e : (if n = 0 then BitVec.ofNat 32 126 <<< 23 else BitVec.ofNat 32 n <<< 23) + 8388608#32 = BitVec.ofNat 32 ((ex n + 127).toNat) <<< 23 := by
      unfold ex
      split
      · decide
      · rw [word_scale ⟨n, by omega⟩, show ((n : ℤ) - 126 + 127).toNat = n + 1 by omega]
    rw [e]
    have hb : 1 ≤ (ex n + 127).toNat ∧ (ex n + 127).toNat ≤ 254 ∧ (((ex n + 127).toNat : ℤ)) - 127 = ex n := by unfold ex; split <;> omega
    refine (T_mid _ hb.1 hb.2.1).trans ?_
    rw [hb.2.2]
  · rw [if_neg (not_lt.mpr (h254.mpr hge)), if_neg (by omega)]
    rcases Nat.lt_or_ge n 255 with hl | hg
    · rw [if_pos (not_le.mp fun hh => by have := h255.mp hh; omega), word_scale ⟨n, by omega⟩]
      obtain rfl : n = 254 := by omega
      exact T_top
    · rw [if_neg (not_lt.mpr (h255.mpr hg)), show n = 255 by omega]
      simp [Ideal.ofBits, Ideal.ieee]

/-- The two inverse scales agree. -/
theorem inv_eq (p : EReal) : kInv p = rInv p := by
  obtain ⟨n, hn, h⟩ := exists_field p
  have hw := kWord_eq p n hn h
  unfold kInv rInv
  rw [b253, b254, b255, hw, T_top, Ideal.ofBits_zero_f32]
  have h253 := h 253 (by omega) (by omega)
  have h254 := h 254 (by omega) (by omega)
  have h255 := h 255 (by omega) le_rfl
  rw [T_top] at h255
  rcases Nat.lt_or_ge n 253 with hlt | hge
  · rw [if_pos (not_le.mp fun hh => by have := h253.mp hh; omega), rExp_eq p n (by omega) h, zero_sub, ← EReal.coe_neg,
      show (-(ex n : ℝ)) = ((-ex n : ℤ) : ℝ) by push_cast; rfl, exp2_int]
    have e : 2122317824#32 - (if n = 0 then BitVec.ofNat 32 126 <<< 23 else BitVec.ofNat 32 n <<< 23) = BitVec.ofNat 32 ((127 - ex n).toNat) <<< 23 := by
      unfold ex
      split
      · decide
      · rw [word_inv ⟨n, by omega⟩, show (127 - ((n : ℤ) - 126)).toNat = 253 - n by omega]
    rw [e]
    have hb : 1 ≤ (127 - ex n).toNat ∧ (127 - ex n).toNat ≤ 254 ∧ (((127 - ex n).toNat : ℤ)) - 127 = -ex n := by unfold ex; split <;> omega
    refine (T_mid _ hb.1 hb.2.1).trans ?_
    rw [hb.2.2]
  · rw [if_neg (not_lt.mpr (h253.mpr hge)), if_neg (by omega)]
    rcases Nat.lt_or_ge n 254 with hl | hg
    · rw [if_pos (not_le.mp fun hh => by have := h254.mp hh; omega), show n = 253 by omega]
      simp [Ideal.ofBits, Ideal.ieee]
    · rw [if_neg (not_lt.mpr (h254.mpr hg))]
      rcases Nat.lt_or_ge n 255 with hl' | hg'
      · rw [if_pos (not_le.mp fun hh => by have := h255.mp hh; omega), show n = 254 by omega]
        rfl
      · rw [if_neg (not_lt.mpr (h255.mpr hg')), show n = 255 by omega]
        rfl

end Cert.Val

end
-- ==== Proof.VKer.lean ====
module

public import proofs.«01_k».proof.Proof.KStep
public import proofs.«01_k».proof.Proof.VScal
public import Idealize.ShloMosaic.Lib.Pipeline.Value
public import Idealize.ShloMosaic.Lib.MatmulPlain
public import Idealize.ShloMosaic.Lib.Pointwise.Index

@[expose] public section

set_option maxRecDepth 16384

noncomputable section

/-! The kernel's quantiser at the ideal values, one row of one group at a time. -/

namespace Cert.Val

open Idealize.ShloMosaic

/-- The largest magnitude of a group. -/
def gMax (f : Fin 128 → EReal) : EReal := Finset.univ.fold max (Ideal.ofBits .f32 0xFF800000#32) (fun c => max (f c) (-(f c)))
/-- The largest magnitude over 448. -/
def gP (f : Fin 128 → EReal) : EReal := gMax f * Ideal.ofBits .f32 0x3B124925#32
/-- The group's scale. -/
def gScale (f : Fin 128 → EReal) : EReal := kScale (gP f)
/-- The group's codes. -/
def gCode (f : Fin 128 → EReal) (c : Fin 128) : EReal :=
  min (Ideal.ofBits .f32 0x43E00000#32) (max (Ideal.ofBits .f32 0xC3E00000#32) (f c * kInv (gP f)))

/-- A choice by a comparison, as a choice by a proposition. -/
theorem select_lt {α : Type} (x y : EReal) (a b : α) : Scalar.select (Ideal.cmp .olt x y) a b = if x < y then a else b := by
  unfold Ideal.cmp Scalar.select
  by_cases h : x < y <;> simp [h]

/-- A choice by `x >= y`. -/
theorem select_ge {α : Type} (x y : EReal) (a b : α) : Scalar.select (Ideal.cmp .oge x y) a b = if y ≤ x then a else b := by
  unfold Ideal.cmp Scalar.select
  by_cases h : y ≤ x <;> simp [h]

/-- A choice by the negation of `x < y`. -/
theorem select_not_lt {α : Type} (x y : EReal) (a b : α) : Scalar.select (IntOp.xori (Ideal.cmp .olt x y) 1#1) a b = if x < y then b else a := by
  unfold Ideal.cmp Scalar.select IntOp.xori
  by_cases h : x < y <;> simp [h]

/-- A choice by an equality of words. -/
theorem select_eq {α : Type} (x y : BitVec 32) (a b : α) : Scalar.select (IntOp.cmpi .eq x y) a b = if x = y then a else b := by
  unfold IntOp.cmpi Scalar.select
  by_cases h : x = y
  · simp [h]
  · have hb : (x == y) = false := by simpa using h
    simp [hb, h]

end Cert.Val

namespace Cert.Kernel.Val

open Cert.Kernel Cert.Kernel.Gen Cert.Kernel.Step Cert.Val Idealize.ShloMosaic

/-- The kernel's largest magnitude of a row of a group. -/
theorem amax_apply (v : FVec Ideal S160x128 .f32) (r : Fin 160) : amax v (ix1 r) = gMax fun c => v (ix2 r c) := by
  unfold amax gMax
  refine (Ideal.multiReduction_maximumf_single _ _ _ _ _ _).trans ?_
  refine congrArg (Finset.univ.fold max (Ideal.ofBits .f32 0xFF800000#32)) (funext fun c => ?_)
  have e : reduces_S160x128_S160.lift (ix1 r) c = ix2 r c := by
    funext a
    match a with
    | ⟨0, _⟩ => rfl
    | ⟨1, _⟩ => rfl
  show max (v (reduces_S160x128_S160.lift (ix1 r) c)) (-v (reduces_S160x128_S160.lift (ix1 r) c)) = _
  rw [e]
  rfl

/-- The kernel's maximum over 256 lanes is the largest exponent field not above the row's value. -/
theorem fieldOf_apply (p : FVec Ideal S160x1 .f32) (r : Fin 160) :
    multiReductionI .maxsi [1] S160 (select (xori (cmpf .olt (broadcastTo S160x256 p broadcasts_S160x1_S160x256)
        (bitcastToFloat .f32 (shli (iota .tc S160x256 32 [1] iota_S160x256_d1_w32) (broadcast S160x256 23#32)))) (constantI S160x256 1 1#1))
        (shli (iota .tc S160x256 32 [1] iota_S160x256_d1_w32) (broadcast S160x256 23#32)) (broadcast S160x256 0#32))
      2147483648#32 reduces_S160x256_S160 rfl (ix1 r) = fieldOf (p (ix2 r 0)) := by
  refine (multiReductionI_eq_fold _ _ _ _ _ _).trans ((reduces_S160x256_S160.fold_filter_drop_single _ _ _ _).trans ?_)
  unfold fieldOf
  refine congrArg (Finset.univ.fold IntOp.maxsi 2147483648#32) (funext fun k => ?_)
  have e : reduces_S160x256_S160.lift (ix1 r) k = ix2 r k := by
    funext a
    match a with
    | ⟨0, _⟩ => rfl
    | ⟨1, _⟩ => rfl
  have hb : (shli (iota .tc S160x256 32 [1] iota_S160x256_d1_w32) (broadcast S160x256 23#32)) (ix2 r k) = BitVec.ofNat 32 k.val <<< 23 := by
    show IntOp.shli .vector (BitVec.ofNat 32 (0 * 256 + k.val)) 23#32 = _
    unfold IntOp.shli
    rw [if_pos (by decide), Nat.zero_mul, Nat.zero_add]
    rfl
  have hp : broadcastTo S160x256 p broadcasts_S160x1_S160x256 (ix2 r k) = p (ix2 r 0) :=
    broadcastTo_apply _ _ _ _ (by intro a; match a with | ⟨0, _⟩ => rfl | ⟨1, _⟩ => rfl)
  show (select _ _ _) (reduces_S160x256_S160.lift (ix1 r) k) = _
  rw [e]
  show Scalar.select (IntOp.xori (Ideal.cmp .olt (broadcastTo S160x256 p broadcasts_S160x1_S160x256 (ix2 r k)) (Ideal.ofBits .f32 ((shli (iota .tc S160x256 32 [1] iota_S160x256_d1_w32) (broadcast S160x256 23#32)) (ix2 r k)))) 1#1) ((shli (iota .tc S160x256 32 [1] iota_S160x256_d1_w32) (broadcast S160x256 23#32)) (ix2 r k)) 0#32 = _
  rw [hb, hp, select_not_lt]
  rfl

/-- A column read at a row. -/
theorem column_apply {α : Type} (a : S160.Idx → α) (r : Fin 160) : shapeCast S160x1 a shapeCasts_S160_S160x1 (ix2 r 0) = a (ix1 r) :=
  shapeCast_apply _ _ _ _ (by rw [Shape.rowMajor_val_one, Shape.rowMajor_val_two]; show r.val = r.val * 1 + 0; omega)

/-- The field the kernel makes a row's scale of. -/
theorem expWord_apply (a : FVec Ideal S160 .f32) (r : Fin 160) : expWord a (ix2 r 0) = kWord (a (ix1 r) * Ideal.ofBits .f32 0x3B124925#32) := by
  unfold expWord
  show Scalar.select (IntOp.cmpi .eq (shapeCast S160x1 _ shapeCasts_S160_S160x1 (ix2 r 0)) 0#32) 1056964608#32 (shapeCast S160x1 _ shapeCasts_S160_S160x1 (ix2 r 0)) = _
  rw [column_apply, fieldOf_apply, select_eq]
  unfold kWord
  show (if fieldOf (shapeCast S160x1 a shapeCasts_S160_S160x1 (ix2 r 0) * Ideal.ofBits .f32 0x3B124925#32) = 0#32 then _ else fieldOf (shapeCast S160x1 a shapeCasts_S160_S160x1 (ix2 r 0) * Ideal.ofBits .f32 0x3B124925#32)) = _
  rw [column_apply]

/-- The scale of a row of a group. -/
theorem scaleOf_apply (v : FVec Ideal S160x128 .f32) (r : Fin 160) : scaleOf (amax v) (ix2 r 0) = gScale fun c => v (ix2 r c) := by
  show Ideal.ofBits .f32 (expWord (amax v) (ix2 r 0) + 8388608#32) = _
  rw [expWord_apply, amax_apply]
  rfl

/-- A code of a group. -/
theorem codesOf_apply (v : FVec Ideal S160x128 .f32) (r : Fin 160) (c : Fin 128) :
    codesOf v (amax v) (ix2 r c) = gCode (fun c => v (ix2 r c)) c := by
  have hp : broadcastTo S160x128 (invOf (amax v)) broadcasts_S160x1_S160x128 (ix2 r c) = invOf (amax v) (ix2 r 0) :=
    broadcastTo_apply _ _ _ _ (by intro a; match a with | ⟨0, _⟩ => rfl | ⟨1, _⟩ => rfl)
  have hi : invOf (amax v) (ix2 r 0) = kInv (gP fun c => v (ix2 r c)) := by
    show Ideal.ofBits .f32 (2122317824#32 - expWord (amax v) (ix2 r 0)) = _
    rw [expWord_apply, amax_apply]
    rfl
  show min (Ideal.ofBits .f32 0x43E00000#32) (max (Ideal.ofBits .f32 0xC3E00000#32)
    (v (ix2 r c) * broadcastTo S160x128 (invOf (amax v)) broadcasts_S160x1_S160x128 (ix2 r c))) = _
  rw [hp, hi]
  rfl

end Cert.Kernel.Val

end
-- ==== Proof.VRef.lean ====
module

public import proofs.«01_k».proof.Proof.RVal
public import proofs.«01_k».proof.Proof.VKer

@[expose] public section

set_option maxRecDepth 16384

noncomputable section

/-! The reference's quantiser at the ideal values, one row of one group at a time. It is used with 8 groups and with 384, so
its lemmas are over any number `n` of groups. -/

namespace Cert.ReferenceIdeal.Val

open Cert.ReferenceIdeal Cert.ReferenceIdeal.Gen Cert.Val Idealize.ShloMosaic

/-- `n` groups of `q` columns on each row, and one value for each group. -/
abbrev S3 (n q : Nat) : Shape := ⟨3, ![160, n, q]⟩
/-- The shape of one value per row and group. -/
abbrev S2 (n : Nat) : Shape := ⟨2, ![160, n]⟩

variable {n : Nat}

/-- The largest magnitude of each group, read at one row and group. -/
theorem max_apply (v : FVec Ideal (S3 n 128) .f32) (h : (S3 n 128).Reduces [2] (S2 n)) (h' h'') (r : Fin 160) (k : Fin n) :
    multiReduction .maximumf [2] (S2 n) (absf v) 0xFF800000#32 h h' h'' (ix2 r k) = gMax fun c => v (ix3 r k c) := by
  refine (Ideal.multiReduction_maximumf_single _ _ _ _ _ _).trans ?_
  refine congrArg (Finset.univ.fold max (Ideal.ofBits .f32 0xFF800000#32)) (funext fun c => ?_)
  have e : h.lift (ix2 r k) c = ix3 r k c := by
    funext a
    match a with
    | ⟨0, _⟩ => rfl
    | ⟨1, _⟩ => rfl
    | ⟨2, _⟩ => rfl
  show max (v (h.lift (ix2 r k) c)) (-v (h.lift (ix2 r k) c)) = _
  rw [e]; rfl

/-- One value for each group, as a column of each group. -/
theorem group_apply {α : Type} (P : Shape.Idx (S2 n) → α) (h : Shape.ShapeCasts (S2 n) (S3 n 1)) (r : Fin 160) (k : Fin n) (z : Fin 1) :
    shapeCast (S3 n 1) P h (ix3 r k z) = P (ix2 r k) :=
  shapeCast_apply _ _ _ _ (by
    rw [Shape.rowMajor_val_two, Shape.rowMajor_val_three]
    show r.val * n + k.val = (r.val * n + k.val) * 1 + z.val
    omega)

/-- One value for each group, given to every column of it. -/
theorem spread_apply {α : Type} (q : Nat) (hn : n ≠ 1) (P : Shape.Idx (S2 n) → α) (h : Shape.ShapeCasts (S2 n) (S3 n 1))
    (hb : Shape.Broadcasts (S3 n 1) (S3 n q)) (r : Fin 160) (k : Fin n) (c : Fin q) :
    broadcastTo (S3 n q) (shapeCast (S3 n 1) P h) hb (ix3 r k c) = P (ix2 r k) := by
  rw [broadcastTo_apply _ _ _ (ix3 r k (0 : Fin 1)) (by
    intro a
    match a with
    | ⟨0, _⟩ => rfl
    | ⟨1, _⟩ => exact (if_neg hn).symm
    | ⟨2, _⟩ => rfl)]
  exact group_apply P h r k 0

/-- The powers of two, one in each column. -/
theorem powers_apply (hi : S1x1x256.Iotas .tc 32 [2]) (hb2 : Shape.Broadcasts S1x1x256 (S3 n 256)) (r : Fin 160) (k : Fin n) (c : Fin 256) :
    broadcastTo (S3 n 256) (exp2 (subf (sitofp .f32 (iota .tc S1x1x256 32 [2] hi)) (broadcast S1x1x256 (Scalar.ofBits (F := Ideal) .f32 0x42FC0000#32)))) hb2 (ix3 r k c)
      = Ideal.exp2 ((((BitVec.ofNat 32 c.val).toInt : ℝ) : EReal) - Ideal.ofBits .f32 0x42FC0000#32) := by
  refine (broadcastTo_apply _ _ _ (ix3 (0 : Fin 1) (0 : Fin 1) c : S1x1x256.Idx) (by
    intro a
    match a with
    | ⟨0, _⟩ => rfl
    | ⟨1, _⟩ => rfl
    | ⟨2, _⟩ => rfl)).trans ?_
  show Ideal.exp2 ((((BitVec.ofNat 32 (0 * 256 + c.val)).toInt : ℝ) : EReal) - Ideal.ofBits .f32 0x42FC0000#32) = _
  rw [Nat.zero_mul, Nat.zero_add]

/-- The count of powers of two, read at one row and group. -/
theorem count_apply (hn : n ≠ 1) (P : FVec Ideal (S2 n) .f32) (h : Shape.ShapeCasts (S2 n) (S3 n 1)) (hb : Shape.Broadcasts (S3 n 1) (S3 n 256))
    (hi) (hb2 : Shape.Broadcasts S1x1x256 (S3 n 256)) (hr : Shape.Reduces (S3 n 256) [2] (S2 n)) (h' h'') (r : Fin 160) (k : Fin n) :
    multiReduction .add [2] (S2 n) (select (cmpf .oge (broadcastTo (S3 n 256) (shapeCast (S3 n 1) P h) hb)
        (broadcastTo (S3 n 256) (exp2 (subf (sitofp .f32 (iota .tc S1x1x256 32 [2] hi)) (broadcast S1x1x256 (Scalar.ofBits (F := Ideal) .f32 0x42FC0000#32)))) hb2))
      (broadcast (S3 n 256) (Scalar.ofBits (F := Ideal) .f32 0x3F800000#32)) (broadcast (S3 n 256) (Scalar.ofBits (F := Ideal) .f32 0x00000000#32))) 0x00000000#32 hr h' h'' (ix2 r k)
      = Cert.Val.count (P (ix2 r k)) := by
  refine (Ideal.multiReduction_add_single _ _ _ _ _ _).trans ?_
  unfold Cert.Val.count
  refine Finset.sum_congr rfl fun (c : Fin 256) _ => ?_
  have e : hr.lift (ix2 r k) c = ix3 r k c := by
    funext a
    match a with
    | ⟨0, _⟩ => rfl
    | ⟨1, _⟩ => rfl
    | ⟨2, _⟩ => rfl
  rw [e]
  have ht := powers_apply (n := n) hi hb2 r k c
  have hp := spread_apply 256 hn P h hb r k c
  show Scalar.select (Ideal.cmp .oge (broadcastTo (S3 n 256) (shapeCast (S3 n 1) P h) hb (ix3 r k c)) (broadcastTo (S3 n 256) _ hb2 (ix3 r k c))) _ _ = _
  rw [hp, ht, select_ge]
  rfl

/-! ## The quantiser, over any number of groups -/

section Q

variable (P : FVec Ideal (S2 n) .f32) (hn : n ≠ 1) (h : Shape.ShapeCasts (S2 n) (S3 n 1)) (hb : Shape.Broadcasts (S3 n 1) (S3 n 256))
  (hi : S1x1x256.Iotas .tc 32 [2]) (hb2 : Shape.Broadcasts S1x1x256 (S3 n 256)) (hr : Shape.Reduces (S3 n 256) [2] (S2 n))
  (hq : Shape.Broadcasts (S3 n 1) (S3 n 128))

/-- The exponents. -/
def qExp : FVec Ideal (S2 n) .f32 :=
  select (cmpf .olt P (broadcast (S2 n) (Scalar.ofBits (F := Ideal) .f32 0x00800000#32))) (broadcast (S2 n) (Scalar.ofBits (F := Ideal) .f32 0x00000000#32))
    (subf (multiReduction .add [2] (S2 n) (select (cmpf .oge (broadcastTo (S3 n 256) (shapeCast (S3 n 1) P h) hb)
        (broadcastTo (S3 n 256) (exp2 (subf (sitofp .f32 (iota .tc S1x1x256 32 [2] hi)) (broadcast S1x1x256 (Scalar.ofBits (F := Ideal) .f32 0x42FC0000#32)))) hb2))
      (broadcast (S3 n 256) (Scalar.ofBits (F := Ideal) .f32 0x3F800000#32)) (broadcast (S3 n 256) (Scalar.ofBits (F := Ideal) .f32 0x00000000#32))) 0x00000000#32 hr (.inl rfl) rfl)
      (broadcast (S2 n) (Scalar.ofBits (F := Ideal) .f32 0x42FC0000#32)))

/-- The exponent of one row and group. -/
theorem qExp_apply (hn : n ≠ 1) (r : Fin 160) (k : Fin n) : qExp P h hb hi hb2 hr (ix2 r k) = rExp (P (ix2 r k)) := by
  have hc := count_apply hn P h hb hi hb2 hr (.inl rfl) rfl r k
  unfold rExp
  rw [← hc, ← select_lt]
  rfl

/-- The scales. -/
def qScale (E : FVec Ideal (S2 n) .f32) : FVec Ideal (S2 n) .f32 :=
  select (cmpf .olt P (broadcast (S2 n) (Scalar.ofBits (F := Ideal) .f32 0x7F000000#32))) (exp2 E)
    (select (cmpf .olt P (broadcast (S2 n) (Scalar.ofBits (F := Ideal) .f32 0x7F800000#32))) (broadcast (S2 n) (Scalar.ofBits (F := Ideal) .f32 0x7F800000#32))
      (broadcast (S2 n) (Scalar.ofBits (F := Ideal) .f32 0x00000000#32)))

/-- The scale of one row and group. -/
theorem qScale_apply (E : FVec Ideal (S2 n) .f32) (i : (S2 n).Idx) (hE : E i = rExp (P i)) : qScale P E i = rScale (P i) := by
  unfold rScale
  rw [← hE, ← select_lt, ← select_lt]
  rfl

/-- The inverse scales. -/
def qInv (E : FVec Ideal (S2 n) .f32) : FVec Ideal (S2 n) .f32 :=
  select (cmpf .olt P (broadcast (S2 n) (Scalar.ofBits (F := Ideal) .f32 0x7E800000#32)))
    (exp2 (subf (broadcast (S2 n) (Scalar.ofBits (F := Ideal) .f32 0x00000000#32)) E))
    (select (cmpf .olt P (broadcast (S2 n) (Scalar.ofBits (F := Ideal) .f32 0x7F000000#32))) (broadcast (S2 n) (Scalar.ofBits (F := Ideal) .f32 0x00000000#32))
      (select (cmpf .olt P (broadcast (S2 n) (Scalar.ofBits (F := Ideal) .f32 0x7F800000#32))) (broadcast (S2 n) (Scalar.ofBits (F := Ideal) .f32 0xFF800000#32))
        (broadcast (S2 n) (Scalar.ofBits (F := Ideal) .f32 0xFF000000#32))))

/-- The inverse scale of one row and group. -/
theorem qInv_apply (E : FVec Ideal (S2 n) .f32) (i : (S2 n).Idx) (hE : E i = rExp (P i)) : qInv P E i = rInv (P i) := by
  unfold rInv
  rw [← hE, ← select_lt, ← select_lt, ← select_lt]
  rfl

/-- The codes. -/
def qCodes (v : FVec Ideal (S3 n 128) .f32) (I : FVec Ideal (S2 n) .f32) : FVec Ideal (S3 n 128) .fp8e4m3 :=
  truncf .fp8e4m3 (minimumf (broadcast (S3 n 128) (Scalar.ofBits (F := Ideal) .f32 0x43E00000#32))
    (maximumf (broadcast (S3 n 128) (Scalar.ofBits (F := Ideal) .f32 0xC3E00000#32)) (mulf v (broadcastTo (S3 n 128) (shapeCast (S3 n 1) I h) hq)))) bitsLt_fp8e4m3_f32

/-- One code of one row and group. -/
theorem qCodes_apply (hn : n ≠ 1) (v : FVec Ideal (S3 n 128) .f32) (I : FVec Ideal (S2 n) .f32) (r : Fin 160) (k : Fin n) (c : Fin 128) :
    qCodes h hq v I (ix3 r k c) = min (Ideal.ofBits .f32 0x43E00000#32) (max (Ideal.ofBits .f32 0xC3E00000#32) (v (ix3 r k c) * I (ix2 r k))) := by
  rw [← spread_apply 128 hn I h hq r k c]
  rfl

/-- The values the scales are powers of two of. -/
def qP (v : FVec Ideal (S3 n 128) .f32) (hm : (S3 n 128).Reduces [2] (S2 n)) : FVec Ideal (S2 n) .f32 :=
  mulf (multiReduction .maximumf [2] (S2 n) (absf v) 0xFF800000#32 hm (.inl rfl) rfl) (broadcast (S2 n) (Scalar.ofBits (F := Ideal) .f32 0x3B124925#32))

/-- The largest magnitude over 448 of one row and group. -/
theorem qP_apply (v : FVec Ideal (S3 n 128) .f32) (hm : (S3 n 128).Reduces [2] (S2 n)) (r : Fin 160) (k : Fin n) :
    qP v hm (ix2 r k) = gP fun c => v (ix3 r k c) := by
  unfold gP
  rw [← max_apply v hm (.inl rfl) rfl r k]
  rfl

end Q

/-! ## The input's groups -/

section X

variable (v0 : Vec Ideal S160x1x1024 .bf16)

/-- The reference's `p` of the input, as the generic one. -/
theorem pay5_eq : k0_pay5 v0 = qP (n := 8) (k0_pay4 v0) reduces_S160x8x128_S160x8 := rfl

/-- The reference's exponents of the input, as the generic ones. -/
theorem pay6_eq : k0_pay6 v0 = qExp (n := 8) (k0_pay5 v0) shapeCasts_S160x8_S160x8x1 broadcasts_S160x8x1_S160x8x256 iota_S1x1x256_d2_w32
    broadcasts_S1x1x256_S160x8x256 reduces_S160x8x256_S160x8 := rfl

/-- The reference's scales of the input, as the generic ones. -/
theorem pay7_eq : k0_pay7 v0 = qScale (n := 8) (k0_pay5 v0) (k0_pay6 v0) := rfl

/-- The reference's codes of the input, as the generic ones. -/
theorem pay10_eq : k0_pay10 (k0_pay4 v0) (k0_pay5 v0) (k0_pay8 v0) (k0_pay9 v0) (Scalar.ofBits (F := Ideal) .f32 0x7F000000#32)
    = qCodes (n := 8) shapeCasts_S160x8_S160x8x1 broadcasts_S160x8x1_S160x8x128 (k0_pay4 v0) (qInv (n := 8) (k0_pay5 v0) (k0_pay6 v0)) := rfl

/-- The `p` of one row and group of the input. -/
theorem pay5_apply (r : Fin 160) (k : Fin 8) : k0_pay5 v0 (ix2 r k) = gP fun c => k0_pay4 v0 (ix3 r k c) := by
  rw [pay5_eq]; exact qP_apply _ _ r k

/-- The exponent of one row and group of the input. -/
theorem pay6_apply (r : Fin 160) (k : Fin 8) : k0_pay6 v0 (ix2 r k) = rExp (k0_pay5 v0 (ix2 r k)) := by
  rw [pay6_eq]; exact qExp_apply (n := 8) _ _ _ _ _ _ (by decide) r k

/-- The input's scales. -/
theorem pay7_apply (r : Fin 160) (k : Fin 8) : k0_pay7 v0 (ix2 r k) = gScale fun c => k0_pay4 v0 (ix3 r k c) := by
  unfold gScale
  rw [scale_eq, ← pay5_apply, pay7_eq]
  exact qScale_apply (n := 8) _ _ _ (pay6_apply v0 r k)

/-- The input's codes. -/
theorem pay10_apply (r : Fin 160) (k : Fin 8) (c : Fin 128) :
    k0_pay10 (k0_pay4 v0) (k0_pay5 v0) (k0_pay8 v0) (k0_pay9 v0) (Scalar.ofBits (F := Ideal) .f32 0x7F000000#32) (ix3 r k c)
      = gCode (fun c => k0_pay4 v0 (ix3 r k c)) c := by
  unfold gCode
  rw [inv_eq, ← pay5_apply, ← qInv_apply (n := 8) _ _ _ (pay6_apply v0 r k), pay10_eq]
  exact qCodes_apply (n := 8) _ _ (by decide) _ _ r k c

end X

/-! ## The activation's groups -/

section A

variable (a : FVec Ideal S160x384x128 .f32)

/-- The largest magnitudes. -/
def aMax : FVec Ideal S160x384 .f32 := multiReduction .maximumf [2] S160x384 (absf a) 0xFF800000#32 reduces_S160x384x128_S160x384 (.inl rfl) rfl

/-- The reference's `p` of the activation, as the generic one. -/
theorem pay14_eq : k0_pay14 (aMax a) = qP (n := 384) a reduces_S160x384x128_S160x384 := rfl

/-- The reference's exponents of the activation, as the generic ones. -/
theorem pay15_eq (M : FVec Ideal S160x384 .f32) : k0_pay15 M = qExp (n := 384) (k0_pay14 M) shapeCasts_S160x384_S160x384x1 broadcasts_S160x384x1_S160x384x256
    iota_S1x1x256_d2_w32 broadcasts_S1x1x256_S160x384x256 reduces_S160x384x256_S160x384 := rfl

/-- The reference's scales of the activation, as the generic ones. -/
theorem pay16_eq (M : FVec Ideal S160x384 .f32) : k0_pay16 M = qScale (n := 384) (k0_pay14 M) (k0_pay15 M) := rfl

/-- The reference's codes of the activation, as the generic ones. -/
theorem pay3_eq (M : FVec Ideal S160x384 .f32) : k0_pay3 a (k0_pay17 M) (k0_pay18 M) (k0_pay19 M) (k0_pay20 M)
    = shapeCast S160x49152 (qCodes (n := 384) shapeCasts_S160x384_S160x384x1 broadcasts_S160x384x1_S160x384x128 a
        (qInv (n := 384) (k0_pay14 M) (k0_pay15 M))) shapeCasts_S160x384x128_S160x49152 := rfl

/-- The `p` of one row and group of the activation. -/
theorem pay14_apply (r : Fin 160) (k : Fin 384) : k0_pay14 (aMax a) (ix2 r k) = gP fun c => a (ix3 r k c) := by
  rw [pay14_eq]; exact qP_apply _ _ r k

/-- The exponent of one row and group of the activation. -/
theorem pay15_apply (M : FVec Ideal S160x384 .f32) (r : Fin 160) (k : Fin 384) : k0_pay15 M (ix2 r k) = rExp (k0_pay14 M (ix2 r k)) := by
  rw [pay15_eq]; exact qExp_apply (n := 384) _ _ _ _ _ _ (by decide) r k

/-- The activation's scales. -/
theorem pay16_apply (r : Fin 160) (k : Fin 384) : k0_pay16 (aMax a) (ix2 r k) = gScale fun c => a (ix3 r k c) := by
  unfold gScale
  rw [scale_eq, ← pay14_apply, pay16_eq]
  exact qScale_apply (n := 384) _ _ _ (pay15_apply _ r k)

/-- The activation's codes. -/
theorem pay3_apply (r : Fin 160) (q : Fin 49152) :
    k0_pay3 a (k0_pay17 (aMax a)) (k0_pay18 (aMax a)) (k0_pay19 (aMax a)) (k0_pay20 (aMax a)) (ix2 r q)
      = gCode (fun c => a (ix3 r ⟨q.val / 128, by omega⟩ c)) ⟨q.val % 128, by omega⟩ := by
  unfold gCode
  rw [inv_eq, ← pay14_apply, ← qInv_apply (n := 384) _ _ _ (pay15_apply (aMax a) r _), pay3_eq]
  refine (shapeCast_apply _ _ _ (ix3 r (⟨q.val / 128, by omega⟩ : Fin 384) (⟨q.val % 128, by omega⟩ : Fin 128)) ?_).trans ?_
  · rw [Shape.rowMajor_val_two, Shape.rowMajor_val_three]
    show (r.val * 384 + q.val / 128) * 128 + q.val % 128 = r.val * 49152 + q.val
    omega
  · exact qCodes_apply (n := 384) _ _ (by decide) _ _ r _ _

end A

end Cert.ReferenceIdeal.Val

end
-- ==== Proof.VSpec.lean ====
module

public import proofs.«01_k».proof.Proof.VRef

@[expose] public section

set_option maxRecDepth 16384

noncomputable section

/-! The five results at the ideal values, index by index, and the reference's arrays as those. -/

namespace Cert.Val

open Idealize.ShloMosaic

variable (a0 : FVec Ideal ⟨3, ![160, 1, 1024]⟩ .bf16) (a1 : FVec Ideal ⟨3, ![2, 49152, 1024]⟩ .fp8e4m3) (a2 : FVec Ideal ⟨3, ![2, 384, 8]⟩ .f32)

/-- Group `k` of row `r` of the input. -/
def X (r : Fin 160) (k : Fin 8) : Fin 128 → EReal := fun c => a0 (ix3 r (0 : Fin 1) (⟨k.val * 128 + c.val, by omega⟩ : Fin 1024))

/-- The group of an input column, and the column's place in it. -/
def grpIn (j : Fin 1024) : Fin 8 := ⟨j.val / 128, by omega⟩
/-- The place of input column `j` in its group. -/
def colIn (j : Fin 1024) : Fin 128 := ⟨j.val % 128, by omega⟩

/-- The group of an output column, and the column's place in it. -/
def grpOut (q : Fin 49152) : Fin 384 := ⟨q.val / 128, by omega⟩
/-- The place of output column `q` in its group. -/
def colOut (q : Fin 49152) : Fin 128 := ⟨q.val % 128, by omega⟩

/-- The dequantised input. -/
def XD (r : Fin 160) (j : Fin 1024) : EReal := gCode (X a0 r (grpIn j)) (colIn j) * gScale (X a0 r (grpIn j))

/-- The dequantised weights. -/
def WD (h : Fin 2) (q : Fin 49152) (j : Fin 1024) : EReal := a1 (ix3 h q j) * a2 (ix3 h (grpOut q) (grpIn j))

/-- The product of the input with weight matrix `h`. -/
def PR (h : Fin 2) (r : Fin 160) (q : Fin 49152) : EReal := ∑ j : Fin 1024, XD a0 r j * WD a1 a2 h q j

/-- The activation. -/
def ACT (r : Fin 160) (q : Fin 49152) : EReal := PR a0 a1 a2 0 r q * Ideal.logistic (PR a0 a1 a2 0 r q) * PR a0 a1 a2 1 r q

/-- Group `k` of row `r` of the activation. -/
def AG (r : Fin 160) (k : Fin 384) : Fin 128 → EReal := fun c => ACT a0 a1 a2 r ⟨k.val * 128 + c.val, by omega⟩

/-- The two ways of writing an index of a matrix. -/
theorem valueIdx_eq {p q : Nat} (a : Fin p) (b : Fin q) : ValueIdx.ix2 a b = ix2 a b := by
  funext i
  match i with
  | ⟨0, _⟩ => rfl
  | ⟨1, _⟩ => rfl

end Cert.Val

namespace Cert.ReferenceIdeal.Val

open Cert.ReferenceIdeal Cert.ReferenceIdeal.Gen Cert.Val Idealize.ShloMosaic

variable (a0 : Vec Ideal S160x1x1024 .bf16) (a1 : Vec Ideal S2x49152x1024 .fp8e4m3) (a2 : Vec Ideal S2x384x8 .f32)

/-- The input, grouped, at one entry. -/
theorem pay4_apply (r : Fin 160) (k : Fin 8) (c : Fin 128) : k0_pay4 a0 (ix3 r k c) = X a0 r k c := by
  show shapeCast S160x8x128 (extf (F := Ideal) .f32 (shapeCast S160x1024 a0 shapeCasts_S160x1x1024_S160x1024) bitsLt_bf16_f32) shapeCasts_S160x1024_S160x8x128 (ix3 r k c) = _
  refine (shapeCast_apply _ _ _ (ix2 r (⟨k.val * 128 + c.val, by omega⟩ : Fin 1024)) ?_).trans ?_
  · rw [Shape.rowMajor_val_two, Shape.rowMajor_val_three]
    show r.val * 1024 + (k.val * 128 + c.val) = (r.val * 8 + k.val) * 128 + c.val
    omega
  · show shapeCast S160x1024 a0 shapeCasts_S160x1x1024_S160x1024 (ix2 r (⟨k.val * 128 + c.val, by omega⟩ : Fin 1024)) = _
    refine shapeCast_apply _ _ _ _ ?_
    rw [Shape.rowMajor_val_two, Shape.rowMajor_val_three]
    show (r.val * 1 + 0) * 1024 + (k.val * 128 + c.val) = r.val * 1024 + (k.val * 128 + c.val)
    omega

/-- One group of the input. -/
theorem pay4_group (r : Fin 160) (k : Fin 8) : (fun c => k0_pay4 a0 (ix3 r k c)) = X a0 r k := funext fun c => pay4_apply a0 r k c

/-- Groups side by side, read at a column. -/
theorem flat_apply {α : Type} (v : S160x8x128.Idx → α) (r : Fin 160) (j : Fin 1024) :
    shapeCast S160x1024 v shapeCasts_S160x8x128_S160x1024 (ix2 r j) = v (ix3 r (grpIn j) (colIn j)) := by
  refine shapeCast_apply _ _ _ _ ?_
  rw [Shape.rowMajor_val_two, Shape.rowMajor_val_three]
  show (r.val * 8 + j.val / 128) * 128 + j.val % 128 = r.val * 1024 + j.val
  omega

/-- The reference's dequantised input. -/
def refXD : FVec Ideal S160x1024 .bf16 :=
  shapeCast S160x1024 (mulf (extf .bf16 (k0_pay10 (k0_pay4 a0) (k0_pay5 a0) (k0_pay8 a0) (k0_pay9 a0) (Scalar.ofBits (F := Ideal) .f32 0x7F000000#32)) bitsLt_fp8e4m3_bf16)
    (broadcastTo S160x8x128 (shapeCast S160x8x1 (truncf (F := Ideal) .bf16 (k0_pay7 a0) bitsLt_bf16_f32) shapeCasts_S160x8_S160x8x1) broadcasts_S160x8x1_S160x8x128)) shapeCasts_S160x8x128_S160x1024

/-- The reference's dequantised input at one entry. -/
theorem refXD_apply (r : Fin 160) (j : Fin 1024) : refXD a0 (ix2 r j) = XD a0 r j := by
  unfold refXD XD
  rw [flat_apply, ← pay4_group, ← pay7_apply, ← pay10_apply]
  have h := spread_apply (n := 8) 128 (by decide) (truncf (F := Ideal) .bf16 (k0_pay7 a0) bitsLt_bf16_f32) shapeCasts_S160x8_S160x8x1 broadcasts_S160x8x1_S160x8x128 r (grpIn j) (colIn j)
  generalize k0_pay10 (k0_pay4 a0) (k0_pay5 a0) (k0_pay8 a0) (k0_pay9 a0) (Scalar.ofBits (F := Ideal) .f32 0x7F000000#32) = codes at *
  generalize k0_pay7 a0 = scales at *
  show (codes (ix3 r (grpIn j) (colIn j)) : EReal) * broadcastTo S160x8x128 (shapeCast S160x8x1 (truncf (F := Ideal) .bf16 scales bitsLt_bf16_f32) shapeCasts_S160x8_S160x8x1) broadcasts_S160x8x1_S160x8x128 (ix3 r (grpIn j) (colIn j)) = _
  rw [h]
  rfl

/-- The reference's dequantised weights. -/
def refWD : FVec Ideal S2x49152x1024 .bf16 :=
  shapeCast S2x49152x1024 (mulf (shapeCast S2x384x128x8x128 (extf (F := Ideal) .bf16 a1 bitsLt_fp8e4m3_bf16) shapeCasts_S2x49152x1024_S2x384x128x8x128)
    (broadcastTo S2x384x128x8x128 (shapeCast S2x384x1x8x1 (truncf (F := Ideal) .bf16 a2 bitsLt_bf16_f32) shapeCasts_S2x384x8_S2x384x1x8x1) broadcasts_S2x384x1x8x1_S2x384x128x8x128))
    shapeCasts_S2x384x128x8x128_S2x49152x1024

/-- An index into the weights cut in tiles, and one into their scales. -/
def ixT (h : Fin 2) (g : Fin 384) (i : Fin 128) (k : Fin 8) (c : Fin 128) : S2x384x128x8x128.Idx :=
  fun a => match a with | ⟨0, _⟩ => h | ⟨1, _⟩ => g | ⟨2, _⟩ => i | ⟨3, _⟩ => k | ⟨4, _⟩ => c
/-- The index of a weight scale among the broadcast ones. -/
def ixU (h : Fin 2) (g : Fin 384) (k : Fin 8) : S2x384x1x8x1.Idx :=
  fun a => match a with | ⟨0, _⟩ => h | ⟨1, _⟩ => g | ⟨2, _⟩ => (0 : Fin 1) | ⟨3, _⟩ => k | ⟨4, _⟩ => (0 : Fin 1)

/-- The place of a weight in the row-major order of the grouped array. -/
theorem rowMajor_ixT (h : Fin 2) (q : Fin 49152) (j : Fin 1024) :
    (S2x384x128x8x128.rowMajor (ixT h (grpOut q) (colOut q) (grpIn j) (colIn j))).val = (S2x49152x1024.rowMajor (ix3 h q j)).val := by
  rw [Shape.rowMajor_val_five, Shape.rowMajor_val_three]
  show (((h.val * 384 + q.val / 128) * 128 + q.val % 128) * 8 + j.val / 128) * 128 + j.val % 128 = (h.val * 49152 + q.val) * 1024 + j.val
  omega

/-- The reference's dequantised weight at one entry. -/
theorem refWD_apply (h : Fin 2) (q : Fin 49152) (j : Fin 1024) : refWD a1 a2 (ix3 h q j) = WD a1 a2 h q j := by
  unfold refWD WD
  refine (shapeCast_apply _ _ _ (ixT h (grpOut q) (colOut q) (grpIn j) (colIn j)) (rowMajor_ixT h q j)).trans ?_
  have e1 : shapeCast S2x384x128x8x128 a1 shapeCasts_S2x49152x1024_S2x384x128x8x128 (ixT h (grpOut q) (colOut q) (grpIn j) (colIn j)) = a1 (ix3 h q j) :=
    shapeCast_apply _ _ _ _ (rowMajor_ixT h q j).symm
  have e2 : broadcastTo S2x384x128x8x128 (shapeCast S2x384x1x8x1 a2 shapeCasts_S2x384x8_S2x384x1x8x1) broadcasts_S2x384x1x8x1_S2x384x128x8x128
      (ixT h (grpOut q) (colOut q) (grpIn j) (colIn j)) = a2 (ix3 h (grpOut q) (grpIn j)) := by
    refine (broadcastTo_apply _ _ _ (ixU h (grpOut q) (grpIn j)) ?_).trans (shapeCast_apply _ _ _ _ ?_)
    · intro a
      match a with
      | ⟨0, _⟩ => rfl
      | ⟨1, _⟩ => rfl
      | ⟨2, _⟩ => rfl
      | ⟨3, _⟩ => rfl
      | ⟨4, _⟩ => rfl
    · rw [Shape.rowMajor_val_five, Shape.rowMajor_val_three]
      show (h.val * 384 + q.val / 128) * 8 + j.val / 128 = (((h.val * 384 + q.val / 128) * 1 + 0) * 8 + j.val / 128) * 1 + 0
      omega
  rw [← e1, ← e2]
  rfl

/-- One of the reference's two products. -/
def refPR (off : Fin 3 → Nat) (hs : S2x49152x1024.Slices off S1x49152x1024) : FVec Ideal S160x49152 .f32 :=
  matmul dot_S160x1024_S49152x1024_S160x49152_1_1_0_0_n_n none (refXD a0)
    (shapeCast S49152x1024 (extractStridedSlice S1x49152x1024 off (refWD a1 a2) hs) shapeCasts_S1x49152x1024_S49152x1024) (constant S160x49152 .f32 0x00000000#32)

/-- The reference's product with one of the two weights, at one entry, as a sum. -/
theorem refPR_apply (off : Fin 3 → Nat) (hs : S2x49152x1024.Slices off S1x49152x1024) (h : Fin 2) (ho : off = ![h.val, 0, 0]) (r : Fin 160) (q : Fin 49152) :
    refPR a0 a1 a2 off hs (ix2 r q) = PR a0 a1 a2 h r q := by
  subst ho
  unfold refPR PR
  refine (Ideal.matmul_transposedRhs_apply (M := 160) (K := 1024) (N := 49152) none _ _ _ r q).trans ?_
  simp only [valueIdx_eq]
  have hz : constant (F := Ideal) S160x49152 .f32 0x00000000#32 (ix2 r q) = (0 : EReal) := Ideal.ofBits_zero_f32
  rw [hz, zero_add]
  refine Finset.sum_congr rfl fun j _ => ?_
  have e : shapeCast S49152x1024 (extractStridedSlice S1x49152x1024 ![h.val, 0, 0] (refWD a1 a2) hs) shapeCasts_S1x49152x1024_S49152x1024 (ix2 q j) = WD a1 a2 h q j := by
    refine (shapeCast_apply _ _ _ (ix3 (0 : Fin 1) q j : S1x49152x1024.Idx) ?_).trans ?_
    · rw [Shape.rowMajor_val_two, Shape.rowMajor_val_three]
      show (0 * 49152 + q.val) * 1024 + j.val = q.val * 1024 + j.val
      omega
    · refine (extractStridedSlice_apply _ _ _ _ (ix3 h q j : S2x49152x1024.Idx) ?_).trans (refWD_apply a1 a2 h q j)
      intro a
      match a with
      | ⟨0, _⟩ => show h.val = h.val + 0; omega
      | ⟨1, _⟩ => show q.val = 0 + q.val; omega
      | ⟨2, _⟩ => show j.val = 0 + j.val; omega
  rw [refXD_apply, e]

/-- The reference's activation. -/
def refACT : FVec Ideal S160x49152 .f32 :=
  k0_pay11 (k0_pay4 a0) (k0_pay5 a0) (k0_pay7 a0) (k0_pay8 a0) (k0_pay9 a0) (Scalar.ofBits (F := Ideal) .f32 0x7F000000#32) a1 a2

/-- The reference's activation at one entry. -/
theorem refACT_apply (r : Fin 160) (q : Fin 49152) : refACT a0 a1 a2 (ix2 r q) = ACT a0 a1 a2 r q := by
  unfold ACT
  rw [← refPR_apply a0 a1 a2 ![0, 0, 0] slices_S2x49152x1024_o0_0_0_S1x49152x1024 0 rfl, ← refPR_apply a0 a1 a2 ![1, 0, 0] slices_S2x49152x1024_o1_0_0_S1x49152x1024 1 rfl]
  rfl

/-! ## The reference's result arrays -/

/-- A load of the whole input. -/
theorem ld0 : View.ld a0 r0_0 = a0 := View.ld_unit_zero (S := S160x1x1024) hz0 _ a0
/-- A load of the whole weight. -/
theorem ld1 : View.ld a1 r0_1 = a1 := View.ld_unit_zero (S := S2x49152x1024) hz0 _ a1
/-- A load of all weight scales. -/
theorem ld2 : View.ld a2 r0_2 = a2 := View.ld_unit_zero (S := S2x384x8) hz0 _ a2

/-- The activation, grouped, at one entry. -/
theorem group_ACT (r : Fin 160) (k : Fin 384) (c : Fin 128) :
    shapeCast S160x384x128 (refACT a0 a1 a2) shapeCasts_S160x49152_S160x384x128 (ix3 r k c) = AG a0 a1 a2 r k c := by
  refine (shapeCast_apply _ _ _ (ix2 r (⟨k.val * 128 + c.val, by omega⟩ : Fin 49152)) ?_).trans (refACT_apply a0 a1 a2 r _)
  rw [Shape.rowMajor_val_two, Shape.rowMajor_val_three]
  show r.val * 49152 + (k.val * 128 + c.val) = (r.val * 384 + k.val) * 128 + c.val
  omega

/-- The largest magnitudes of the activation's groups. -/
theorem pay26_eq : k0_pay26 a0 a1 a2 = aMax (shapeCast S160x384x128 (refACT a0 a1 a2) shapeCasts_S160x49152_S160x384x128) := by
  unfold k0_pay26 k0_pay21 k0_pay22 k0_pay23 k0_pay24 k0_pay25
  rw [ld0, ld1, ld2]
  rfl

/-- Result 1: the activation. -/
theorem G3_apply (r : Fin 160) (q : Fin 49152) : G3 (F := Ideal) a0 a1 a2 (ix2 r q) = ACT a0 a1 a2 r q := by
  unfold G3 k0_pay21 k0_pay22 k0_pay23 k0_pay24 k0_pay25
  rw [ld0]
  exact refACT_apply a0 a1 a2 r q

/-- Result 2: the input's codes. -/
theorem G4_apply (r : Fin 160) (j : Fin 1024) : G4 (F := Ideal) a0 a1 a2 (ix2 r j) = gCode (X a0 r (grpIn j)) (colIn j) := by
  unfold G4 k0_pay2 k0_pay21 k0_pay22 k0_pay24 k0_pay25
  rw [ld0]
  refine (flat_apply _ r j).trans ?_
  rw [← pay4_group]
  exact pay10_apply a0 r _ _

/-- Result 3: the input's scales. -/
theorem G5_apply (r : Fin 160) (k : Fin 8) : G5 (F := Ideal) a0 a1 a2 (ix2 r k) = gScale (X a0 r k) := by
  unfold G5 k0_pay23
  rw [ld0, ← pay4_group]
  exact pay7_apply a0 r k

/-- Result 4: the activation's codes. -/
theorem G6_apply (r : Fin 160) (q : Fin 49152) : G6 (F := Ideal) a0 a1 a2 (ix2 r q) = gCode (AG a0 a1 a2 r (grpOut q)) (colOut q) := by
  unfold G6
  rw [pay26_eq]
  unfold k0_pay21 k0_pay22 k0_pay23 k0_pay24 k0_pay25
  rw [ld0]
  refine (pay3_apply _ r q).trans ?_
  rw [show AG a0 a1 a2 r (grpOut q) = _ from funext fun c => (group_ACT a0 a1 a2 r (grpOut q) c).symm]
  rfl

/-- Result 5: the activation's scales. -/
theorem G7_apply (r : Fin 160) (k : Fin 384) : G7 (F := Ideal) a0 a1 a2 (ix2 r k) = gScale (AG a0 a1 a2 r k) := by
  unfold G7
  rw [pay26_eq, show AG a0 a1 a2 r k = _ from funext fun c => (group_ACT a0 a1 a2 r k c).symm]
  exact pay16_apply _ r k

end Cert.ReferenceIdeal.Val

end
-- ==== Proof.VOut.lean ====
module

public import proofs.«01_k».proof.Proof.KOut
public import proofs.«01_k».proof.Proof.VSpec

@[expose] public section

set_option maxRecDepth 16384

noncomputable section

/-! The kernel's result arrays at the ideal values, index by index. -/

namespace Cert.Kernel.Val

open Cert.Kernel Cert.Kernel.Gen Cert.Kernel.Step Cert.Kernel.Run Cert.Val Idealize.ShloMosaic
open Idealize.ShloMosaic.View (ld)

/-- An index of a block of 128 columns. -/
theorem at128_eq (r : Fin 160) (c : Fin 128) : at128 r c = ix2 r c := by
  funext a
  match a with
  | ⟨0, _⟩ => rfl
  | ⟨1, _⟩ => rfl
/-- An index of a block of 256 columns. -/
theorem at256_eq (r : Fin 160) (c : Fin 256) : at256 r c = ix2 r c := by
  funext a
  match a with
  | ⟨0, _⟩ => rfl
  | ⟨1, _⟩ => rfl
/-- An index of a column. -/
theorem at1_eq (r : Fin 160) : at1 r = ix2 r (0 : Fin 1) := by
  funext a
  match a with
  | ⟨0, _⟩ => rfl
  | ⟨1, _⟩ => rfl

/-! ## The input -/

section X

variable (a0 : FVec Ideal S160x1x1024 .bf16)

/-- The flattened input at one entry. -/
theorem flatX_apply (r : Fin 160) (j : Fin 1024) : flatX (F := Ideal) a0 (ix2 r j) = a0 (ix3 r (0 : Fin 1) j) := by
  unfold flatX
  refine shapeCast_apply _ _ _ _ ?_
  rw [Shape.rowMajor_val_two, Shape.rowMajor_val_three]
  show (r.val * 1 + 0) * 1024 + j.val = r.val * 1024 + j.val
  omega

/-- One group of the input at one entry. -/
theorem xGroup_apply (k : Fin 8) (r : Fin 160) (c : Fin 128) : xGroup (flatX (F := Ideal) a0) k (ix2 r c) = X a0 r k c := by
  show shapeCast S160x128 (ld (flatX (F := Ideal) a0) (rX k)) shapeCasts_S160x128_S160x128 (ix2 r c) = _
  refine (shapeCast_apply _ _ _ (ix2 r c) rfl).trans ?_
  show flatX (F := Ideal) a0 ((rX k).emb (ix2 r c)) = _
  have e : (rX k).emb (ix2 r c) = ix2 r (⟨k.val * 128 + c.val, by omega⟩ : Fin 1024) := by
    funext a
    apply Fin.ext
    match a with
    | ⟨0, _⟩ => show 0 + 1 * r.val = r.val; omega
    | ⟨1, _⟩ => show 128 * k.val + 1 * c.val = k.val * 128 + c.val; omega
  rw [e, flatX_apply]
  rfl

/-- One row of one group of the input. -/
theorem xGroup_row (k : Fin 8) (r : Fin 160) : (fun c => xGroup (flatX (F := Ideal) a0) k (ix2 r c)) = X a0 r k := funext fun c => xGroup_apply a0 k r c

/-- One code of the input. -/
theorem xCodes_apply (k : Fin 8) (r : Fin 160) (c : Fin 128) : xCodes (flatX (F := Ideal) a0) k (ix2 r c) = gCode (X a0 r k) c := by
  unfold xCodes
  rw [codesOf_apply, xGroup_row]

/-- One scale of the input. -/
theorem xScale_apply (k : Fin 8) (r : Fin 160) : xScale (flatX (F := Ideal) a0) k (ix2 r (0 : Fin 1)) = gScale (X a0 r k) := by
  unfold xScale
  rw [scaleOf_apply, xGroup_row]

/-- One entry of one dequantised group of the input. -/
theorem xDeq_apply (k : Fin 8) (r : Fin 160) (c : Fin 128) : xDeq (flatX (F := Ideal) a0) k (ix2 r c) = gCode (X a0 r k) c * gScale (X a0 r k) := by
  rw [← xCodes_apply, ← xScale_apply]
  unfold xDeq
  refine (shapeCast_apply _ _ _ (ix2 r c) rfl).trans ?_
  have h : broadcastTo S160x128 (truncf (F := Ideal) .bf16 (xScale (flatX (F := Ideal) a0) k) bitsLt_bf16_f32) broadcasts_S160x1_S160x128 (ix2 r c)
      = truncf (F := Ideal) .bf16 (xScale (flatX (F := Ideal) a0) k) bitsLt_bf16_f32 (ix2 r (0 : Fin 1)) :=
    broadcastTo_apply _ _ _ _ (by intro a; match a with | ⟨0, _⟩ => rfl | ⟨1, _⟩ => rfl)
  generalize xCodes (flatX (F := Ideal) a0) k = codes at *
  generalize xScale (flatX (F := Ideal) a0) k = scales at *
  show (codes (ix2 r c) : EReal) * broadcastTo S160x128 (truncf (F := Ideal) .bf16 scales bitsLt_bf16_f32) broadcasts_S160x1_S160x128 (ix2 r c) = _
  rw [h]
  rfl

/-- One entry of the dequantised input. -/
theorem xDeqBlk_apply (r : Fin 160) (j : Fin 1024) : xDeqBlk (flatX (F := Ideal) a0) (ix2 r j) = XD a0 r j := by
  show xDeq (flatX (F := Ideal) a0) (grpIn j) (at128 r (colIn j)) = _
  rw [at128_eq, xDeq_apply]
  rfl

/-- Result 2. -/
theorem xCodesBlk_apply (r : Fin 160) (j : Fin 1024) : xCodesBlk (flatX (F := Ideal) a0) (ix2 r j) = gCode (X a0 r (grpIn j)) (colIn j) := by
  show xCodes (flatX (F := Ideal) a0) (grpIn j) (at128 r (colIn j)) = _
  rw [at128_eq, xCodes_apply]

/-- Result 3. -/
theorem xScaleBlk_apply (r : Fin 160) (k : Fin 8) : xScaleBlk (flatX (F := Ideal) a0) (ix2 r k) = gScale (X a0 r k) := by
  show xScale (flatX (F := Ideal) a0) k (at1 r) = _
  rw [at1_eq, xScale_apply]

end X

/-! ## The weights of one step -/

section W

variable (w : Vec Ideal S2x1024x1024 .fp8e4m3) (ws : Vec Ideal S2x8x8 .f32)

/-- Putting pieces together depends on the list of pieces alone. -/
theorem concatenate_congr {α : Type} {t : Shape} (a : Fin t.rank) (l l' : List ((s : Shape) × (s.Idx → α))) (e : l = l')
    (h : Shape.Concatenates (l.map (·.1)) t a) (h' : Shape.Concatenates (l'.map (·.1)) t a) (j : t.Idx) :
    concatenate t a l h j = concatenate t a l' h' j := by subst e; rfl

/-- One entry of a dequantised 128 by 128 weight tile. -/
theorem wTile_apply (h : Fin 2) (g k : Fin 8) (i c : Fin 128) :
    wTile w ws h g k (ix2 i c) = w (ix3 h (⟨128 * g.val + i.val, by omega⟩ : Fin 1024) (⟨128 * k.val + c.val, by omega⟩ : Fin 1024)) * ws (ix3 h g k) := by
  have e1 : shapeCast S128x128 (ld w (rW h g k)) shapeCasts_S1x128x128_S128x128 (ix2 i c)
      = w (ix3 h (⟨128 * g.val + i.val, by omega⟩ : Fin 1024) (⟨128 * k.val + c.val, by omega⟩ : Fin 1024)) := by
    refine (shapeCast_apply _ _ _ (ix3 (0 : Fin 1) i c : S1x128x128.Idx) ?_).trans ?_
    · rw [Shape.rowMajor_val_two, Shape.rowMajor_val_three]
      show (0 * 128 + i.val) * 128 + c.val = i.val * 128 + c.val
      omega
    · show w ((rW h g k).emb (ix3 (0 : Fin 1) i c)) = _
      refine congrArg w (funext fun a => Fin.ext ?_)
      match a with
      | ⟨0, _⟩ => show h.val + 1 * 0 = h.val; omega
      | ⟨1, _⟩ => show 128 * g.val + 1 * i.val = 128 * g.val + i.val; omega
      | ⟨2, _⟩ => show 128 * k.val + 1 * c.val = 128 * k.val + c.val; omega
  have e2 : ld ws (rWS h g k) (Shape.Idx.first (show 0 < S1x1x1.numel by decide)) = ws (ix3 h g k) := by
    show ws ((rWS h g k).emb (Shape.Idx.first (show 0 < S1x1x1.numel by decide))) = _
    refine congrArg ws (funext fun a => Fin.ext ?_)
    match a with
    | ⟨0, _⟩ => show h.val + 1 * 0 = h.val; omega
    | ⟨1, _⟩ => show g.val + 1 * 0 = g.val; omega
    | ⟨2, _⟩ => show k.val + 1 * 0 = k.val; omega
  rw [← e1, ← e2]
  rfl

/-- One entry of two such tiles, one above the other. -/
theorem wCol_apply (h : Fin 2) (j : Fin 4) (k : Fin 8) (n : Fin 256) (c : Fin 128) :
    wCol w ws h j k (ix2 n c) = wTile w ws h (grp j ⟨n.val / 128, by omega⟩) k (ix2 (⟨n.val % 128, by omega⟩ : Fin 128) c) := by
  unfold wCol
  refine (concatenate_congr (t := S256x128) 0 _ (List.ofFn fun i : Fin 2 => (⟨S128x128, wTile w ws h (grp j i) k⟩ : (s : Shape) × (s.Idx → Ideal .bf16)))
    (by simp [List.ofFn_succ]) _ (by simpa [List.ofFn_succ] using concatenates_S128x128_S128x128_S256x128_d0) _).trans ?_
  refine concatenate_ofFn_apply (t := S256x128) (s₁ := S128x128) 0 (fun i : Fin 2 => wTile w ws h (grp j i) k) _ rfl 128 rfl _ ⟨n.val / 128, by omega⟩ rfl _ rfl ?_
  intro b hb
  match b, hb with
  | ⟨0, _⟩, hb => exact absurd rfl hb
  | ⟨1, _⟩, _ => rfl

/-- One entry of 256 dequantised weight rows. -/
theorem wSub_apply (h : Fin 2) (j : Fin 4) (n : Fin 256) (q : Fin 1024) :
    wSub w ws h j (ix2 n q) = w (ix3 h (⟨256 * j.val + n.val, by omega⟩ : Fin 1024) q) * ws (ix3 h (⟨2 * j.val + n.val / 128, by omega⟩ : Fin 8) (grpIn q)) := by
  unfold wSub
  refine (concatenate_congr (t := S256x1024) 1 _ (List.ofFn fun i : Fin 8 => (⟨S256x128, wCol w ws h j i⟩ : (s : Shape) × (s.Idx → Ideal .bf16)))
    (by simp [List.ofFn_succ]) _ (by simpa [List.ofFn_succ] using concatenates_S256x128_S256x128_S256x128_S256x128_S256x128_S256x128_S256x128_S256x128_S256x1024_d1) _).trans ?_
  refine (concatenate_ofFn_apply (t := S256x1024) (s₁ := S256x128) 1 (fun i : Fin 8 => wCol w ws h j i) _ rfl 128 rfl _ (grpIn q) rfl (ix2 n (colIn q)) rfl ?_).trans ?_
  · intro b hb
    match b, hb with
    | ⟨0, _⟩, _ => rfl
    | ⟨1, _⟩, hb => exact absurd rfl hb
  · rw [wCol_apply, wTile_apply]
    congr 2
    · refine funext fun a => Fin.ext ?_
      match a with
      | ⟨0, _⟩ => rfl
      | ⟨1, _⟩ => show 128 * (2 * j.val + n.val / 128) + n.val % 128 = 256 * j.val + n.val; omega
      | ⟨2, _⟩ => show 128 * (q.val / 128) + q.val % 128 = q.val; omega

/-- One entry of a block of a product, as a sum. -/
theorem prod_apply (xd : Vec Ideal S160x1024 .bf16) (h : Fin 2) (j : Fin 4) (r : Fin 160) (n : Fin 256) :
    prod xd w ws h j (ix2 r n) = ∑ q : Fin 1024, xd (ix2 r q) * wSub w ws h j (ix2 n q) := by
  unfold prod
  refine (Ideal.matmul_transposedRhs_apply (M := 160) (K := 1024) (N := 256) none _ _ _ r n).trans ?_
  simp only [valueIdx_eq]
  have hz : constant (F := Ideal) S160x256 .f32 0x00000000#32 (ix2 r n) = (0 : EReal) := Ideal.ofBits_zero_f32
  rw [hz, zero_add]

end W

/-! ## The result arrays -/

section R

variable (m : (ℓ : Loc nD τ sig) → Buf (Elt Ideal) ℓ) (c : Dev nD)

/-- The argument arrays. -/
abbrev A0 : FVec Ideal S160x1x1024 .bf16 := m ((c.tc : Thread nD τ).loc main_arg0)
/-- The weight argument. -/
abbrev A1 : FVec Ideal S2x49152x1024 .fp8e4m3 := m ((c.tc : Thread nD τ).loc main_arg1)
/-- The weight scale argument. -/
abbrev A2 : FVec Ideal S2x384x8 .f32 := m ((c.tc : Thread nD τ).loc main_arg2)

/-- The weight block of a grid step, in the whole weight. -/
theorem WV_apply (t : Fin cfg0.N) (h : Fin 2) (y : Fin 1024) (k : Fin 1024) (q : Fin 49152) (hq : q.val = 1024 * t.val + y.val) :
    WV m c t (ix3 h y k) = A1 m c (ix3 h q k) := by
  refine (WV_eq m c t (ix3 h y k)).trans (congrArg (A1 m c) (funext fun a => Fin.ext ?_))
  match a with
  | ⟨0, _⟩ => rfl
  | ⟨1, _⟩ => exact hq.symm
  | ⟨2, _⟩ => rfl

/-- The weight scales of a grid step, among all. -/
theorem WS_apply (t : Fin cfg0.N) (h : Fin 2) (y k : Fin 8) (p : Fin 384) (hp : p.val = 8 * t.val + y.val) :
    WS m c t (ix3 h y k) = A2 m c (ix3 h p k) := by
  refine (WS_eq m c t (ix3 h y k)).trans (congrArg (A2 m c) (funext fun a => Fin.ext ?_))
  match a with
  | ⟨0, _⟩ => rfl
  | ⟨1, _⟩ => exact hp.symm
  | ⟨2, _⟩ => rfl

/-- The dequantised input kept across the grid steps, at one entry. -/
theorem XD_apply (r : Fin 160) (j : Fin 1024) : Run.XD m c (ix2 r j) = Cert.Val.XD (A0 m c) r j := by
  unfold Run.XD
  rw [XV_eq]
  exact xDeqBlk_apply (A0 m c) r j

/-- The step's dequantised weights are the whole matrices' at the step's columns. -/
theorem wSub_step (t : Fin cfg0.N) (h : Fin 2) (j : Fin 4) (n : Fin 256) (k : Fin 1024) (q : Fin 49152) (hq : q.val = 1024 * t.val + (256 * j.val + n.val)) :
    wSub (WV m c t) (WS m c t) h j (ix2 n k) = WD (A1 m c) (A2 m c) h q k := by
  rw [wSub_apply, WV_apply m c t h _ k q hq, WS_apply m c t h _ _ (grpOut q) (by
    show q.val / 128 = 8 * t.val + (2 * j.val + n.val / 128)
    omega)]
  rfl

/-- The step's activation is the whole one at the step's columns. -/
theorem actF_apply (t : Fin cfg0.N) (j : Fin 4) (r : Fin 160) (n : Fin 256) (q : Fin 49152) (hq : q.val = 1024 * t.val + (256 * j.val + n.val)) :
    actF (Run.XD m c) (WV m c t) (WS m c t) j (ix2 r n) = ACT (A0 m c) (A1 m c) (A2 m c) r q := by
  have hp : ∀ h : Fin 2, prod (Run.XD m c) (WV m c t) (WS m c t) h j (ix2 r n) = PR (A0 m c) (A1 m c) (A2 m c) h r q := fun h => by
    rw [prod_apply]
    refine Finset.sum_congr rfl fun k _ => ?_
    rw [XD_apply, wSub_step m c t h j n k q hq]
  unfold ACT
  rw [← hp 0, ← hp 1]
  rfl

/-- One row of one group of the activation of a grid step. -/
theorem aGroup_apply (t : Fin cfg0.N) (j : Fin 4) (i : Fin 2) (r : Fin 160) (p : Fin 384) (hp : p.val = 8 * t.val + (2 * j.val + i.val)) :
    (fun x => aGroup (Run.XD m c) (WV m c t) (WS m c t) j i (ix2 r x)) = AG (A0 m c) (A1 m c) (A2 m c) r p := by
  funext x
  match i, hp with
  | 0, hp =>
    refine (extractStridedSlice_apply _ _ slices_S160x256_o0_0_S160x128 _ (ix2 r (⟨x.val, by omega⟩ : Fin 256)) ?_).trans (actF_apply m c t j r _ _ ?_)
    · intro a
      match a with
      | ⟨0, _⟩ => show r.val = 0 + r.val; omega
      | ⟨1, _⟩ => show x.val = 0 + x.val; omega
    · have hp' : p.val = 8 * t.val + (2 * j.val + 0) := hp
      show p.val * 128 + x.val = 1024 * t.val + (256 * j.val + x.val)
      omega
  | 1, hp =>
    refine (extractStridedSlice_apply _ _ slices_S160x256_o0_128_S160x128 _ (ix2 r (⟨128 + x.val, by omega⟩ : Fin 256)) ?_).trans (actF_apply m c t j r _ _ ?_)
    · intro a
      match a with
      | ⟨0, _⟩ => show r.val = 0 + r.val; omega
      | ⟨1, _⟩ => show 128 + x.val = 128 + x.val; rfl
    · have hp' : p.val = 8 * t.val + (2 * j.val + 1) := hp
      show p.val * 128 + x.val = 1024 * t.val + (256 * j.val + (128 + x.val))
      omega

/-- Result 1. -/
theorem GA_apply (r : Fin 160) (q : Fin 49152) : GA m c (ix2 r q) = ACT (A0 m c) (A1 m c) (A2 m c) r q := by
  show actF (Run.XD m c) (WV m c (ptOfCol q)) (WS m c (ptOfCol q)) ⟨q.val % 1024 / 256, by omega⟩ (at256 r ⟨q.val % 1024 % 256, by omega⟩) = _
  rw [at256_eq]
  refine actF_apply m c _ _ r _ q ?_
  show q.val = 1024 * (q.val / 1024) + (256 * (q.val % 1024 / 256) + q.val % 1024 % 256)
  omega

/-- Result 4. -/
theorem GC_apply (r : Fin 160) (q : Fin 49152) : GC m c (ix2 r q) = gCode (AG (A0 m c) (A1 m c) (A2 m c) r (grpOut q)) (colOut q) := by
  show codesOf (aGroup (Run.XD m c) (WV m c (ptOfCol q)) (WS m c (ptOfCol q)) (chunkOf ⟨q.val % 1024 / 128, by omega⟩) (halfOf ⟨q.val % 1024 / 128, by omega⟩))
    (amax (aGroup (Run.XD m c) (WV m c (ptOfCol q)) (WS m c (ptOfCol q)) (chunkOf ⟨q.val % 1024 / 128, by omega⟩) (halfOf ⟨q.val % 1024 / 128, by omega⟩)))
    (at128 r ⟨q.val % 1024 % 128, by omega⟩) = _
  rw [at128_eq, codesOf_apply, aGroup_apply m c _ _ _ r (grpOut q)]
  · refine congrArg (gCode _) (Fin.ext ?_)
    show q.val % 1024 % 128 = q.val % 128
    omega
  · show q.val / 128 = 8 * (q.val / 1024) + (2 * (q.val % 1024 / 128 / 2) + q.val % 1024 / 128 % 2)
    omega

/-- Result 5. -/
theorem GS_apply (r : Fin 160) (p : Fin 384) : GS m c (ix2 r p) = gScale (AG (A0 m c) (A1 m c) (A2 m c) r p) := by
  show scaleOf (amax (aGroup (Run.XD m c) (WV m c (ptOf p)) (WS m c (ptOf p)) (chunkOf ⟨p.val % 8, by omega⟩) (halfOf ⟨p.val % 8, by omega⟩))) (at1 r) = _
  rw [at1_eq, scaleOf_apply, aGroup_apply m c _ _ _ r p]
  show p.val = 8 * (p.val / 8) + (2 * (p.val % 8 / 2) + p.val % 8 % 2)
  omega

end R

end Cert.Kernel.Val

end
-- ==== Proof.VAlg.lean ====
module

public import proofs.«01_k».proof.Defs
public import proofs.«01_k».proof.Proof.Same
public import proofs.«01_k».proof.Proof.VOut

@[expose] public section

set_option maxRecDepth 16384

noncomputable section

/-! The kernel's five result arrays are the reference's, at the ideal values. -/

namespace Cert.Val

open Idealize.ShloMosaic Idealize.SL.Sem
open Cert.Kernel.Val (A0 A1 A2)

variable (m : (ℓ : Loc Kernel.nD Kernel.τ Kernel.sig) → Buf (Elt Ideal) ℓ) (c : Dev Kernel.nD)

/-- Two arrays of rank 2 with equal entries are equal. -/
theorem ext2 {α : Type} {p q : Nat} {f g : (⟨2, ![p, q]⟩ : Shape).Idx → α} (h : ∀ a b, f (ix2 a b) = g (ix2 a b)) : f = g :=
  funext fun i => by rw [eq_ix2 i]; exact h _ _

/-- Result 1: the activation. -/
theorem result1 : ReferenceIdeal.Val.G3 (F := Ideal) (A0 m c) (A1 m c) (A2 m c) = Kernel.Run.GA m c :=
  ext2 (p := 160) (q := 49152) fun r q => (ReferenceIdeal.Val.G3_apply _ _ _ r q).trans (Kernel.Val.GA_apply m c r q).symm

/-- Result 2: the input's codes. -/
theorem result2 : ReferenceIdeal.Val.G4 (F := Ideal) (A0 m c) (A1 m c) (A2 m c) = Kernel.Step.xCodesBlk (Kernel.Run.XV m c) := by
  rw [Kernel.Run.XV_eq]
  exact ext2 (p := 160) (q := 1024) fun r q => (ReferenceIdeal.Val.G4_apply _ _ _ r q).trans (Kernel.Val.xCodesBlk_apply (A0 m c) r q).symm

/-- Result 3: the input's scales. -/
theorem result3 : ReferenceIdeal.Val.G5 (F := Ideal) (A0 m c) (A1 m c) (A2 m c) = Kernel.Step.xScaleBlk (Kernel.Run.XV m c) := by
  rw [Kernel.Run.XV_eq]
  exact ext2 (p := 160) (q := 8) fun r q => (ReferenceIdeal.Val.G5_apply _ _ _ r q).trans (Kernel.Val.xScaleBlk_apply (A0 m c) r q).symm

/-- Result 4: the activation's codes. -/
theorem result4 : ReferenceIdeal.Val.G6 (F := Ideal) (A0 m c) (A1 m c) (A2 m c) = Kernel.Run.GC m c :=
  ext2 (p := 160) (q := 49152) fun r q => (ReferenceIdeal.Val.G6_apply _ _ _ r q).trans (Kernel.Val.GC_apply m c r q).symm

/-- Result 5: the activation's scales. -/
theorem result5 : ReferenceIdeal.Val.G7 (F := Ideal) (A0 m c) (A1 m c) (A2 m c) = Kernel.Run.GS m c :=
  ext2 (p := 160) (q := 384) fun r q => (ReferenceIdeal.Val.G7_apply _ _ _ r q).trans (Kernel.Val.GS_apply m c r q).symm

/-- The kernel's run at the ideal values, said of the idealised program. -/
theorem run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (Kernel.Run.Post m) :=
  Same.θ_run_of _ _ (Kernel.Run.run m g)

/-- The idealised kernel ends without fault and leaves its arguments. -/
theorem frame : quiescent_KernelIdeal := fun m g _ => Same.θ_run_of _ _ (Kernel.Run.frame (F := Ideal) m g)

/-- The kernel and the reference, from the same arguments, end with equal results. -/
theorem algebraic : algebraic_KernelIdeal_ReferenceIdeal := by
  intro m g m' g' _ hm
  refine ⟨fun c => Kernel.Run.GA m c, fun c => Kernel.Step.xCodesBlk (Kernel.Run.XV m c),
    fun c => Kernel.Step.xScaleBlk (Kernel.Run.XV m c), fun c => Kernel.Run.GC m c, fun c => Kernel.Run.GS m c, ?_, ?_⟩
  · refine (θ_run _ _ _).mono (fun r h c => ?_) (run m g)
    obtain ⟨h0, h1, h2, h3, h4⟩ := Kernel.Run.Post.results h c
    exact ⟨h0, h1, h2, h3, h4, Kernel.Run.Post.args h c⟩
  · refine (θ_run _ _ _).mono (fun r h c => ?_) (ReferenceIdeal.Val.run m' g')
    obtain ⟨h0, h1, h2, h3, h4, ha⟩ := h c
    obtain ⟨e0, e1, e2⟩ := hm c
    rw [e0, e1, e2] at h0 h1 h2 h3 h4
    exact ⟨h0.trans (result1 m c), h1.trans (result2 m c), h2.trans (result3 m c), h3.trans (result4 m c), h4.trans (result5 m c), ha⟩

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KOut
public import proofs.«01_k».proof.Proof.VAlg
public import Idealize.ShloMosaic.Adequacy
public import Idealize.ShloMosaic.Init

@[expose] public section

noncomputable section

namespace Cert.Proof

open Idealize.ShloMosaic Idealize.SL.Sem

/-- The five claims: the three frames, the idealisation of the kernel, and the equality of all five results. -/
theorem claim : Cert.Claim := by
  exact ⟨Cert.Kernel.Gen.facts, Cert.KernelIdeal.Gen.facts, Cert.ReferenceIdeal.Gen.facts, fun m g _ => Cert.Kernel.Run.frame m g,
    Cert.Val.frame, fun m g _ => Cert.ReferenceIdeal.Gen.frame m g, trivial, Cert.Val.algebraic⟩

end Cert.Proof

end
